-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x128 : Shape := ⟨2, ![131072, 128]⟩
abbrev S64x128 : Shape := ⟨2, ![64, 128]⟩
abbrev S4096x128 : Shape := ⟨2, ![4096, 128]⟩
abbrev S512x128 : Shape := ⟨2, ![512, 128]⟩
abbrev S8x128 : Shape := ⟨2, ![8, 128]⟩
abbrev S511x128 : Shape := ⟨2, ![511, 128]⟩
abbrev S1x128 : Shape := ⟨2, ![1, 128]⟩
abbrev S510x128 : Shape := ⟨2, ![510, 128]⟩
abbrev S2x128 : Shape := ⟨2, ![2, 128]⟩
abbrev S508x128 : Shape := ⟨2, ![508, 128]⟩
abbrev S4x128 : Shape := ⟨2, ![4, 128]⟩
abbrev S504x128 : Shape := ⟨2, ![504, 128]⟩
abbrev S496x128 : Shape := ⟨2, ![496, 128]⟩
abbrev S16x128 : Shape := ⟨2, ![16, 128]⟩
abbrev S480x128 : Shape := ⟨2, ![480, 128]⟩
abbrev S32x128 : Shape := ⟨2, ![32, 128]⟩
abbrev S448x128 : Shape := ⟨2, ![448, 128]⟩
abbrev S384x128 : Shape := ⟨2, ![384, 128]⟩
abbrev S128x128 : Shape := ⟨2, ![128, 128]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S131072x128, .f32⟩
  | .hbm, ⟨1, _⟩ => ⟨S64x128, .f32⟩
  | .local _ .vmem, ⟨0, _⟩ => ⟨S4096x128, .f32⟩
  | .local _ .vmem, ⟨1, _⟩ => ⟨S4096x128, .f32⟩
  | .local _ .vmem, ⟨2, _⟩ => ⟨S64x128, .f32⟩
  | .local _ .vmem, ⟨3, _⟩ => ⟨S512x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13043 : BitVec 1 := Scalar.cmpi .eq arg0 c31_i32
  let v13044 : BitVec 32 := Scalar.extui v13043
  let c0_i32_769 : BitVec 32 := 0#32
  let v13045 : BitVec 1 := Scalar.cmpi .ne v13044 c0_i32_769
  v13045

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S131072x128 : Shape := ⟨2, ![131072, 128]⟩
abbrev S128x131072 : Shape := ⟨2, ![128, 131072]⟩
abbrev S128x64 : Shape := ⟨2, ![128, 64]⟩
abbrev S64x128 : Shape := ⟨2, ![64, 128]⟩

abbrev nBuf : Space → Nat
  | .hbm => 5
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S128x131072, .f32⟩
  | .hbm, ⟨2, _⟩ => ⟨S128x64, .f32⟩
  | .hbm, ⟨3, _⟩ => ⟨S128x64, .i32⟩
  | .hbm, ⟨4, _⟩ => ⟨S64x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Net.lean ====
/-
  The compare-exchange networks of the kernel's grid step, as functions on lists: `oeSort` (Batcher's odd-even merge sort, least
  first), `bitMerge` (the bitonic merge, greatest first), `mergeInto` (the running list merged with one sorted set) and `runSets`
  (all sets of a step, one after another). They take the two operations of an exchange as arguments, so that the same text is
  read at vectors of floats (what the kernel computes) and at truth values (where the networks are decided).
-/
module

public import Mathlib.Data.List.Basic
public import Mathlib.Data.List.FinRange

@[expose] public section

namespace Cert.Net

variable {V W : Type*}

/-- The elements at even places and the elements at odd places. -/
def split : List V → List V × List V
  | [] => ([], [])
  | a :: l => (a :: (split l).2, (split l).1)

variable (mn mx : V → V → V)

/-- The exchanges between one sorted list (`o`, the odd places) and the other from its second element on (`e`), laid out in turn. -/
def exch : List V → List V → List V
  | [], _ => []
  | b :: _, [] => [b]
  | b :: o, c :: e => mn b c :: mx b c :: exch o e

/-- The last layer of the odd-even merge: the first even element stays, the others are exchanged with the odd ones. -/
def weave : List V → List V → List V
  | [], _ => []
  | a :: e, o => a :: exch mn mx o e

/-- The odd-even merge of a list of `2 ^ (n + 1)` elements whose two halves are sorted, least first. -/
def oeMerge : ℕ → List V → List V
  | 0, l => exch mn mx (l.take 1) (l.drop 1)
  | n + 1, l => weave mn mx (oeMerge n (split l).1) (oeMerge n (split l).2)

/-- The odd-even merge sort of `2 ^ n` elements, least first. -/
def oeSort : ℕ → List V → List V
  | 0, l => l
  | n + 1, l => oeMerge mn mx n (oeSort n (l.take (2 ^ n)) ++ oeSort n (l.drop (2 ^ n)))

/-- The bitonic merge of `2 ^ n` elements, greatest first. -/
def bitMerge : ℕ → List V → List V
  | 0, l => l
  | n + 1, l =>
    bitMerge n (List.zipWith (fun a b => mx b a) (l.take (2 ^ n)) (l.drop (2 ^ n)))
      ++ bitMerge n (List.zipWith (fun a b => mn b a) (l.take (2 ^ n)) (l.drop (2 ^ n)))

/-- The running list `r`, greatest first, merged with `a`, least first: the greatest of both, greatest first. -/
def mergeInto (n : ℕ) (r a : List V) : List V := bitMerge mn mx n (List.zipWith mx r a)

/-- The sets of one step, each sorted and merged into the running list. -/
def runSets (n : ℕ) (r : List V) (sets : List (List V)) : List V :=
  sets.foldl (fun r a => mergeInto mn mx n r (oeSort mn mx n a)) r

end Cert.Net
-- ==== Proof.Final.lean ====
/-
  The last grid point's sort of the 512 running rows, as the kernel writes it: nine levels of compare-exchange stages over whole
  registers, each stage a pair of rotations, a maximum, a minimum and two masks, the directions carried by signs.
-/
module

public import proofs.«01_k».proof.Proof.Gen.KernelIdeal.Value

@[expose] public section

noncomputable section

namespace Cert.Final

open Cert.KernelIdeal Cert.KernelIdeal.Gen Idealize.ShloMosaic Idealize.ShloMosaic.TcCoe

variable {F : FTy → Type} [FloatOps F]

/-- Bit `k` of the row number, as a float. -/
def bitM (k : ℕ) : FVec F S512x128 .f32 :=
  sitofp .f32 (andi (shrsi (iota .tc S512x128 32 [0] iota_S512x128_d0_w32) (broadcast S512x128 (BitVec.ofNat 32 k)))
    (broadcast S512x128 1#32))

/-- One minus bit `k` of the row number. -/
def lowM (k : ℕ) : FVec F S512x128 .f32 := subf (broadcast S512x128 (Scalar.ofBits .f32 0x3F800000#32)) (bitM k)

/-- The direction of a block of `2 ^ k` rows: one minus twice bit `k`. -/
def signM (k : ℕ) : FVec F S512x128 .f32 :=
  subf (broadcast S512x128 (Scalar.ofBits .f32 0x3F800000#32))
    (mulf (broadcast S512x128 (Scalar.ofBits .f32 0x40000000#32)) (bitM k))

/-- The direction at level `k`: at the last one every row's is one. -/
def dirM (k : ℕ) : FVec F S512x128 .f32 := if k = 9 then broadcast S512x128 (Scalar.ofBits .f32 0x3F800000#32) else signM k

/-- The distance of a stage, below 512. -/
abbrev dist (s : ℕ) : ℕ := 2 ^ s % 512

theorem dist_lt (s : ℕ) : dist s < 512 := Nat.mod_lt _ (by decide)

/-- A block of `n` rows. -/
abbrev rows (n : ℕ) : Shape := ⟨2, ![n, 128]⟩

theorem slices_rows (o n : ℕ) (h : o + n ≤ 512) : S512x128.Slices ![o, 0] (rows n) :=
  ⟨rfl, fun a => match a with
    | ⟨0, _⟩ => h
    | ⟨1, _⟩ => Nat.le_refl 128⟩

theorem concatenates_rows (n k : ℕ) (h : n + k = 512) : Shape.Concatenates [rows n, rows k] S512x128 0 := by
  refine ⟨Nat.le_refl 2, ?_, ?_⟩
  · intro s hs
    simp only [List.mem_cons, List.not_mem_nil, or_false] at hs
    rcases hs with rfl | rfl <;>
    · refine ⟨rfl, fun b hb => ?_⟩
      match b with
      | ⟨0, _⟩ => exact absurd rfl hb
      | ⟨1, _⟩ => rfl
  · show n + (k + 0) = 512
    omega

/-- The rows rotated by `n`: row `n` comes first. -/
def rotV (n : ℕ) (h : n ≤ 512) (y : FVec F S512x128 .f32) : FVec F S512x128 .f32 :=
  concatenate S512x128 0
    [⟨rows (512 - n), extractStridedSlice (rows (512 - n)) ![n, 0] y (slices_rows n (512 - n) (by omega))⟩,
     ⟨rows n, extractStridedSlice (rows n) ![0, 0] y (slices_rows 0 n (by omega))⟩]
    (concatenates_rows (512 - n) n (by omega))

/-- One stage at distance `n = 2 ^ s`: a row whose bit `s` is clear takes the larger of itself and the row `n` below it, another row
    the smaller of itself and the row `n` above it. -/
def stageV (s : ℕ) (y : FVec F S512x128 .f32) : FVec F S512x128 .f32 :=
  addf (mulf (lowM s) (maximumf y (rotV (dist s) (Nat.le_of_lt (dist_lt s)) y)))
    (mulf (bitM s) (minimumf y (rotV (512 - dist s) (Nat.sub_le _ _) y)))

/-- A change of directions from level `k`'s to level `k + 1`'s. -/
def turnV (k : ℕ) (y : FVec F S512x128 .f32) : FVec F S512x128 .f32 := mulf y (mulf (dirM (k + 1)) (dirM k))

/-- The stages `n - 1, …, 0`, then a continuation. -/
def stagesV {α : Type} : ℕ → (FVec F S512x128 .f32 → α) → FVec F S512x128 .f32 → α
  | 0, k, y => k y
  | n + 1, k, y => stagesV n k (stageV n y)

/-- The first level under its directions. -/
def levelOneV (x : FVec F S512x128 .f32) : FVec F S512x128 .f32 := stageV 0 (mulf (signM 1) x)

/-- The levels `l, l + 1, …`, `n` of them, then a continuation. -/
def levelsV {α : Type} : ℕ → ℕ → (FVec F S512x128 .f32 → α) → FVec F S512x128 .f32 → α
  | _, 0, k, y => k y
  | l, n + 1, k, y => stagesV (l + 1) (levelsV (l + 1) n k) (turnV l y)

/-- The first 64 rows. -/
def topV (y : FVec F S512x128 .f32) : FVec F S64x128 .f32 := extractStridedSlice S64x128 ![0, 0] y slices_S512x128_o0_0_S64x128

/-- The whole sort and the first 64 of its rows. -/
def sortedV (x : FVec F S512x128 .f32) : FVec F S64x128 .f32 :=
  levelsV 1 8 topV (levelOneV x)

end Cert.Final
-- ==== Proof.Link.lean ====
/-
  What each case of the kernel's body stores, as the list programs of `Net` and the final sort of `Final`: the 64 stores of the
  running rows hold `step` of the 64 registers loaded from the running rows and of the eight sets of 64 registers loaded from the
  block; the last grid point's store of the output holds the sorted running rows.
-/
module

public import proofs.«01_k».proof.Proof.Net
public import proofs.«01_k».proof.Proof.Final

@[expose] public section

noncomputable section

namespace Cert.Link

open Cert.KernelIdeal Cert.KernelIdeal.Gen Idealize.ShloMosaic Idealize.ShloMosaic.TcCoe Idealize.SL.Sem

variable {F : FTy → Type} [FloatOps F]

theorem inR (p : Fin 64) : ∀ a, (![8 * p.val, 0] : Fin 2 → ℕ) a + S8x128.size a ≤ S512x128.size a := by
  intro a
  match a with
  | ⟨0, _⟩ => show 8 * p.val + 8 ≤ 512; omega
  | ⟨1, _⟩ => show 0 + 128 ≤ 128; omega

theorem inX (s : Fin 8) (p : Fin 64) :
    ∀ a, (![512 * s.val + 8 * p.val, 0] : Fin 2 → ℕ) a + S8x128.size a ≤ S4096x128.size a := by
  intro a
  match a with
  | ⟨0, _⟩ => show 512 * s.val + 8 * p.val + 8 ≤ 4096; omega
  | ⟨1, _⟩ => show 0 + 128 ≤ 128; omega

/-- Eight of the running rows. -/
abbrev rectR (p : Fin 64) : Rect S512x128 := Rect.unit (s := S512x128) ![8 * p.val, 0] S8x128.size (inR p)

/-- Eight rows of a set of the block. -/
abbrev rectX (s : Fin 8) (p : Fin 64) : Rect S4096x128 :=
  Rect.unit (s := S4096x128) ![512 * s.val + 8 * p.val, 0] S8x128.size (inX s p)

/-- All the running rows. -/
abbrev rectAll : Rect S512x128 := Rect.unit (s := S512x128) ![0, 0] S512x128.size inb_S512x128_S512x128_0_0

/-- One register per position, as the store of its eight running rows. -/
def piece (p : Fin 64) (v : FVec F S8x128 .f32) : View.Piece (Elt F) S512x128 .f32 :=
  ⟨rectR p, shapeCast S8x128 v shapeCasts_S8x128_S8x128⟩

/-- The stores of 64 registers, the last first. -/
def pieces (l : List (FVec F S8x128 .f32)) : List (View.Piece (Elt F) S512x128 .f32) :=
  (List.zipWith piece (List.finRange 64) l).reverse

/-- A grid point's work on registers. -/
def step (r : Fin 64 → FVec F S8x128 .f32) (a : Fin 8 → Fin 64 → FVec F S8x128 .f32) : List (FVec F S8x128 .f32) :=
  Net.runSets minimumf maximumf 6 ((List.finRange 64).map r) ((List.finRange 8).map fun s => (List.finRange 64).map (a s))

/-- The first grid point's store of minus infinity in all the running rows. -/
def initial : View.Piece (Elt F) S512x128 .f32 :=
  ⟨rectAll, shapeCast S512x128 (broadcast S512x128 (FloatOps.ofBits .f32 0xFF800000#32)) shapeCasts_S512x128_S512x128⟩

variable (c : Dev nD) (i : grid0.Coords) (arg1 : Memref sig .tc .vmem S4096x128 .f32) (harg1 : arg1.IsWhole)
  (arg2 : Memref sig .tc .vmem S64x128 .f32) (harg2 : arg2.IsWhole) (arg3 : Memref sig .tc .vmem S512x128 .f32)
  (harg3 : arg3.IsWhole)

/-- The registers of the block. -/
def loadX (x : Vec F S4096x128 .f32) (s : Fin 8) (p : Fin 64) : FVec F S8x128 .f32 :=
  View.readAt (Elt F) arg1.view (rectX s p).toLoadRect (harg1.unread x)

/-- The registers of the running rows. -/
def loadR (x : Vec F S512x128 .f32) (p : Fin 64) : FVec F S8x128 .f32 :=
  View.readAt (Elt F) arg3.view (rectR p).toLoadRect (harg3.unread x)

/-- The registers of the running rows just after the initial store. -/
def loadI (p : Fin 64) : FVec F S8x128 .f32 := arg3.view.readCov [initial (F := F)] (rectR p).toLoadRect

/-- The first grid point's stores. -/
theorem stores_first (hc0 : cond0_0 i) (hc1 : ¬cond0_1 i) (x : Vec F S4096x128 .f32) :
    (kernelRun0_A c i arg1 harg1 arg2 harg2 arg3 harg3 hc0 hc1 x).2.1
      = pieces (step (loadI arg3) (loadX arg1 harg1 x)) ++ [initial] := by
  sl_kernel_rfl

/-- A middle grid point's stores. -/
theorem stores_middle (hc0 : ¬cond0_0 i) (hc1 : ¬cond0_1 i) (x : Vec F S4096x128 .f32) (r : Vec F S512x128 .f32) :
    (kernelRun0_B c i arg1 harg1 arg2 harg2 arg3 harg3 hc0 hc1 x r).2.1
      = pieces (step (loadR arg3 harg3 r) (loadX arg1 harg1 x)) := by
  sl_kernel_rfl

/-- The last grid point's store of the output. -/
theorem stores_output (hc0 : ¬cond0_0 i) (hc1 : cond0_1 i) (x : Vec F S4096x128 .f32) (r : Vec F S512x128 .f32) :
    (kernelRun0_C c i arg1 harg1 arg2 harg2 arg3 harg3 hc0 hc1 x r).1
      = [⟨Rect.unit (s := S64x128) ![0, 0] ![64, 128] inb_S64x128_S64x128_0_0,
          Final.sortedV (arg3.view.readCov (pieces (step (loadR arg3 harg3 r) (loadX arg1 harg1 x))) rectAll.toLoadRect)⟩] := by
  sl_kernel_rfl

end Cert.Link
-- ==== Proof.NetSort.lean ====
/-
  The networks of `Net` sort. An exchange by minimum and maximum is, under a threshold, an exchange of truth values by "and" and
  "or" (`map_runSets`); on truth values each merge of sorted lists is sorted, and the list program's result is the
  list whose first places are true, as many as there are true inputs, 64 at most (`runSets_bool`).
-/
module

public import proofs.«01_k».proof.Proof.Net
public import Mathlib.Data.List.Count
public import Mathlib.Algebra.BigOperators.Group.List.Basic
public import Mathlib.Data.Bool.Basic
public import Mathlib.Algebra.Ring.Parity

@[expose] public section

namespace Cert.Net

/-! ## Exchanges carried along a map -/

section Map

variable {V W : Type*} (f : V → W) {mn mx : V → V → V} {mn' mx' : W → W → W}

theorem map_split (l : List V) : split (l.map f) = ((split l).1.map f, (split l).2.map f) := by
  induction l with
  | nil => rfl
  | cons a l ih => simp only [List.map_cons, split, ih]

variable (hmn : ∀ a b, f (mn a b) = mn' (f a) (f b)) (hmx : ∀ a b, f (mx a b) = mx' (f a) (f b))
include hmn hmx

theorem map_exch (o e : List V) : (exch mn mx o e).map f = exch mn' mx' (o.map f) (e.map f) := by
  induction o generalizing e with
  | nil => rfl
  | cons b o ih =>
    cases e with
    | nil => rfl
    | cons c e => simp only [List.map_cons, exch, ih, hmn, hmx]

theorem map_weave (e o : List V) : (weave mn mx e o).map f = weave mn' mx' (e.map f) (o.map f) := by
  cases e with
  | nil => rfl
  | cons a e => simp only [List.map_cons, weave, map_exch f hmn hmx]

theorem map_oeMerge (n : ℕ) (l : List V) : (oeMerge mn mx n l).map f = oeMerge mn' mx' n (l.map f) := by
  induction n generalizing l with
  | zero => simp only [oeMerge, map_exch f hmn hmx, List.map_take, List.map_drop]
  | succ n ih => simp only [oeMerge, map_weave f hmn hmx, ih, map_split]

theorem map_oeSort (n : ℕ) (l : List V) : (oeSort mn mx n l).map f = oeSort mn' mx' n (l.map f) := by
  induction n generalizing l with
  | zero => rfl
  | succ n ih => simp only [oeSort, map_oeMerge f hmn hmx, ih, List.map_append, List.map_take, List.map_drop]

theorem map_bitMerge (n : ℕ) (l : List V) : (bitMerge mn mx n l).map f = bitMerge mn' mx' n (l.map f) := by
  induction n generalizing l with
  | zero => rfl
  | succ n ih =>
    simp only [bitMerge, ih, List.map_append, List.map_zipWith, hmn, hmx, ← List.map_take, ← List.map_drop, List.zipWith_map]

theorem map_mergeInto (n : ℕ) (r a : List V) :
    (mergeInto mn mx n r a).map f = mergeInto mn' mx' n (r.map f) (a.map f) := by
  simp only [mergeInto, map_bitMerge f hmn hmx, List.map_zipWith, hmx, List.zipWith_map]

theorem map_runSets (n : ℕ) (r : List V) (sets : List (List V)) :
    (runSets mn mx n r sets).map f = runSets mn' mx' n (r.map f) (sets.map (List.map f)) := by
  induction sets generalizing r with
  | nil => rfl
  | cons a sets ih =>
    simp only [runSets, List.foldl_cons, List.map_cons] at ih ⊢
    rw [ih, map_mergeInto f hmn hmx, map_oeSort f hmn hmx]

end Map

/-! ## Truth values -/

/-- The sorted list of `n` truth values of which `k` are true, the true ones last. -/
def asc (n k : ℕ) : List Bool := List.replicate (n - k) false ++ List.replicate k true

/-- The sorted list of `n` truth values of which `k` are true, the true ones first. -/
def desc (n k : ℕ) : List Bool := List.replicate k true ++ List.replicate (n - k) false

theorem rep_add {V : Type*} (i j : ℕ) (x : V) : List.replicate (i + j) x = List.replicate i x ++ List.replicate j x :=
  List.replicate_add ..

/-! ### The odd-even merge -/

theorem split_rep {V : Type*} (i : ℕ) (x : V) (l : List V) :
    split (List.replicate (2 * i) x ++ l) = (List.replicate i x ++ (split l).1, List.replicate i x ++ (split l).2) := by
  induction i with
  | zero => simp
  | succ i ih =>
    have h : 2 * (i + 1) = (2 * i + 1) + 1 := by omega
    rw [h, List.replicate_succ, List.replicate_succ, List.cons_append, List.cons_append, split, split, ih]
    rfl

/-- The even and the odd places of two sorted lists of even lengths: each is two sorted lists again, and the odd places hold as many
    true ones as the even places, or one more for each list. -/
theorem split_sorted (m k : ℕ) (h : (m + k) % 2 = 0) (l : List Bool) :
    ∃ me ke mo ko, me + ke = (m + k) / 2 ∧ mo + ko = (m + k) / 2 ∧ ke + ko = k ∧ ke ≤ ko ∧ ko ≤ ke + 1 ∧
      split (List.replicate m false ++ (List.replicate k true ++ l))
        = (List.replicate me false ++ (List.replicate ke true ++ (split l).1),
           List.replicate mo false ++ (List.replicate ko true ++ (split l).2)) := by
  rcases Nat.even_or_odd' k with ⟨j, rfl | rfl⟩
  · obtain ⟨i, rfl⟩ : ∃ i, m = 2 * i := ⟨m / 2, by omega⟩
    refine ⟨i, j, i, j, by omega, by omega, by omega, by omega, by omega, ?_⟩
    rw [split_rep, split_rep]
  · obtain ⟨i, rfl⟩ : ∃ i, m = 2 * i + 1 := ⟨m / 2, by omega⟩
    refine ⟨i + 1, j, i, j + 1, by omega, by omega, by omega, by omega, by omega, ?_⟩
    have e : List.replicate (2 * i + 1) false ++ (List.replicate (2 * j + 1) true ++ l)
        = List.replicate (2 * i) false ++ (false :: true :: (List.replicate (2 * j) true ++ l)) := by
      rw [rep_add, Nat.add_comm (2 * j) 1, rep_add]
      simp [List.replicate]
    rw [e, split_rep, split, split, split_rep, Nat.add_comm j 1, rep_add i 1, rep_add 1 j]
    simp [List.replicate]

theorem exch_rep (i : ℕ) (x : Bool) (o e : List Bool) :
    exch and or (List.replicate i x ++ o) (List.replicate i x ++ e) = List.replicate (2 * i) x ++ exch and or o e := by
  induction i with
  | zero => simp
  | succ i ih =>
    have h : 2 * (i + 1) = (2 * i + 1) + 1 := by omega
    rw [h, List.replicate_succ, List.replicate_succ, List.replicate_succ, List.cons_append, List.cons_append, exch, ih]
    simp

theorem exch_last (i : ℕ) (x : Bool) :
    exch and or (List.replicate (i + 1) x) (List.replicate i x) = List.replicate (2 * i + 1) x := by
  have h := exch_rep i x [x] []
  rw [List.append_nil] at h
  rw [rep_add i 1, rep_add (2 * i) 1]
  exact h

/-- The last layer puts the true ones last. -/
theorem weave_sorted (me ke mo ko : ℕ) (h : me + ke = mo + ko) (h1 : ke ≤ ko) (h2 : ko ≤ ke + 2) (h0 : 0 < me + ke) :
    weave and or (List.replicate me false ++ List.replicate ke true) (List.replicate mo false ++ List.replicate ko true)
      = List.replicate (me + mo) false ++ List.replicate (ke + ko) true := by
  match me, h, h0 with
  | 0, h, h0 =>
    obtain ⟨k, rfl⟩ : ∃ k, ke = k + 1 := ⟨ke - 1, by omega⟩
    obtain rfl : mo = 0 := by omega
    obtain rfl : ko = k + 1 := by omega
    rw [show k + 1 + (k + 1) = (2 * k + 1) + 1 by omega]
    simp only [List.replicate_zero, List.nil_append, Nat.add_zero]
    rw [List.replicate_succ (n := 2 * k + 1), ← exch_last]
    rfl
  | M + 1, h, _ =>
    rw [List.replicate_succ, List.cons_append, weave]
    rcases (by omega : ko = ke ∨ ko = ke + 1 ∨ ko = ke + 2) with rfl | rfl | rfl
    · obtain rfl : mo = M + 1 := by omega
      rw [rep_add M 1, List.append_assoc, exch_rep, show M + 1 + (M + 1) = (2 * M + 1) + 1 by omega]
      match ko with
      | 0 => simp [List.replicate_succ, exch, ← List.replicate_succ']
      | k + 1 =>
        have e : exch and or (List.replicate 1 false ++ List.replicate (k + 1) true) (List.replicate (k + 1) true)
            = false :: true :: exch and or (List.replicate (k + 1) true) (List.replicate k true) := rfl
        rw [e, exch_last, show k + 1 + (k + 1) = (2 * k + 1) + 1 by omega, List.replicate_succ (n := 2 * k + 1), rep_add (2 * M + 1) 1,
          Nat.add_comm (2 * M) 1, rep_add 1 (2 * M)]
        simp
    · obtain rfl : mo = M := by omega
      rw [exch_rep, exch_last, show mo + 1 + mo = 2 * mo + 1 by omega, List.replicate_succ (n := 2 * mo) (a := false), List.cons_append,
        show ke + (ke + 1) = 2 * ke + 1 by omega]
    · obtain ⟨N, rfl⟩ : ∃ N, M = N + 1 := ⟨M - 1, by omega⟩
      obtain rfl : mo = N := by omega
      have e : exch and or (List.replicate (ke + 2) true) (List.replicate 1 false ++ List.replicate ke true)
          = false :: true :: exch and or (List.replicate (ke + 1) true) (List.replicate ke true) := rfl
      rw [rep_add mo 1, List.append_assoc, exch_rep, e, exch_last, show ke + (ke + 2) = (2 * ke + 1) + 1 by omega,
        List.replicate_succ (n := 2 * ke + 1), show mo + 1 + 1 + mo = 1 + (2 * mo + 1) by omega, rep_add 1, rep_add (2 * mo)]
      simp

/-- The odd-even merge of two sorted lists is sorted. -/
theorem oeMerge_sorted (n m k m' k' : ℕ) (h : m + k = 2 ^ n) (h' : m' + k' = 2 ^ n) :
    oeMerge and or n (List.replicate m false ++ (List.replicate k true ++ (List.replicate m' false ++ List.replicate k' true)))
      = List.replicate (m + m') false ++ List.replicate (k + k') true := by
  induction n generalizing m k m' k' with
  | zero =>
    rcases (by omega : m = 0 ∧ k = 1 ∨ m = 1 ∧ k = 0) with ⟨rfl, rfl⟩ | ⟨rfl, rfl⟩ <;>
    rcases (by omega : m' = 0 ∧ k' = 1 ∨ m' = 1 ∧ k' = 0) with ⟨rfl, rfl⟩ | ⟨rfl, rfl⟩ <;> rfl
  | succ n ih =>
    have h2 : 2 ^ (n + 1) = 2 * 2 ^ n := Nat.pow_succ'
    have hpos : 0 < 2 ^ n := Nat.two_pow_pos n
    obtain ⟨be, ce, bo, co, g1, g2, g3, g4, g5, g6⟩ := split_sorted m' k' (by omega) []
    obtain ⟨me, ke, mo, ko, f1, f2, f3, f4, f5, f6⟩ :=
      split_sorted m k (by omega) (List.replicate m' false ++ List.replicate k' true)
    rw [List.append_nil] at g6
    simp only [split, List.append_nil] at g6
    rw [oeMerge, f6, g6, ih _ _ _ _ (by omega) (by omega), ih _ _ _ _ (by omega) (by omega),
      weave_sorted _ _ _ _ (by omega) (by omega) (by omega) (by omega)]
    congr 2 <;> omega

theorem oeMerge_asc (n a b : ℕ) (ha : a ≤ 2 ^ n) (hb : b ≤ 2 ^ n) :
    oeMerge and or n (asc (2 ^ n) a ++ asc (2 ^ n) b) = asc (2 ^ (n + 1)) (a + b) := by
  unfold asc
  rw [List.append_assoc, oeMerge_sorted n _ _ _ _ (by omega) (by omega)]
  congr 2
  omega

/-! ### The bitonic merge -/

theorem zip_rep (g : Bool → Bool → Bool) (i : ℕ) (a b : Bool) (l l' : List Bool) :
    List.zipWith g (List.replicate i a ++ l) (List.replicate i b ++ l') = List.replicate i (g a b) ++ List.zipWith g l l' := by
  induction i with
  | zero => simp
  | succ i ih => simp only [List.replicate_succ, List.cons_append, List.zipWith_cons_cons, ih]

theorem zip_three (g : Bool → Bool → Bool) (i j k : ℕ) (a b c a' b' c' : Bool) :
    List.zipWith g (List.replicate i a ++ (List.replicate j b ++ List.replicate k c))
        (List.replicate i a' ++ (List.replicate j b' ++ List.replicate k c'))
      = List.replicate i (g a a') ++ (List.replicate j (g b b') ++ List.replicate k (g c c')) := by
  have h := zip_rep g k c c' [] []
  simp only [List.append_nil, List.zipWith_nil_right] at h
  rw [zip_rep, zip_rep, h]

/-- One layer of the bitonic merge, the halves given by three runs. -/
theorem bitMerge_three (n i j k : ℕ) (h : i + j + k = 2 ^ n) (a b c a' b' c' : Bool) :
    bitMerge and or (n + 1) ((List.replicate i a ++ (List.replicate j b ++ List.replicate k c))
        ++ (List.replicate i a' ++ (List.replicate j b' ++ List.replicate k c')))
      = bitMerge and or n (List.replicate i (a' || a) ++ (List.replicate j (b' || b) ++ List.replicate k (c' || c)))
        ++ bitMerge and or n (List.replicate i (a' && a) ++ (List.replicate j (b' && b) ++ List.replicate k (c' && c))) := by
  have hl : (List.replicate i a ++ (List.replicate j b ++ List.replicate k c)).length = 2 ^ n := by
    simp only [List.length_append, List.length_replicate]; omega
  rw [bitMerge, List.take_left' hl, List.drop_left' hl, zip_three, zip_three]

/-- The bitonic merge of a run of one value between two runs of the other puts the true ones first. -/
theorem bitMerge_sorted (n : ℕ) (x : Bool) (p m q : ℕ) (h : p + m + q = 2 ^ n) :
    bitMerge and or n (List.replicate p x ++ (List.replicate m (!x) ++ List.replicate q x))
      = List.replicate (if x then p + q else m) true ++ List.replicate (if x then m else p + q) false := by
  induction n generalizing x p m q with
  | zero =>
    rcases (by omega : p = 1 ∧ m = 0 ∧ q = 0 ∨ p = 0 ∧ m = 1 ∧ q = 0 ∨ p = 0 ∧ m = 0 ∧ q = 1) with
      ⟨rfl, rfl, rfl⟩ | ⟨rfl, rfl, rfl⟩ | ⟨rfl, rfl, rfl⟩ <;> cases x <;> rfl
  | succ n ih =>
    have h2 : 2 ^ (n + 1) = 2 * 2 ^ n := Nat.pow_succ'
    have hc : ∀ (x : Bool) (i j k : ℕ), i + j + k = 2 ^ n →
        bitMerge and or n (List.replicate i x ++ (List.replicate j x ++ List.replicate k x)) = List.replicate (i + j + k) x := by
      intro x i j k hn
      rw [← rep_add, ← rep_add, ← Nat.add_assoc, hn]
      have e := ih x (2 ^ n) 0 0 rfl
      cases x <;> simpa using e
    rcases (by omega : 2 ^ n ≤ p ∨ 2 ^ n ≤ q ∨ (p ≤ 2 ^ n ∧ q ≤ 2 ^ n ∧ 2 ^ n ≤ p + q) ∨ p + q ≤ 2 ^ n) with
      hp | hq | ⟨hp, hq, hpq⟩ | hpq
    · obtain ⟨d, rfl⟩ : ∃ d, p = d + m + q + d := ⟨p - 2 ^ n, by omega⟩
      have e : List.replicate (d + m + q + d) x ++ (List.replicate m (!x) ++ List.replicate q x)
          = (List.replicate d x ++ (List.replicate m x ++ List.replicate q x))
            ++ (List.replicate d x ++ (List.replicate m (!x) ++ List.replicate q x)) := by
        simp only [rep_add, List.append_assoc]
      rw [e, bitMerge_three n d m q (by omega)]
      have i1 := ih x d m q (by omega)
      cases x
      · simp only [Bool.not_false, Bool.or_false, Bool.and_false, Bool.or_self, Bool.and_self] at i1 ⊢
        rw [i1, hc _ d m q (by omega)]
        simp only [Bool.false_eq_true, if_false, List.append_assoc, ← rep_add]
        congr 2; omega
      · simp only [Bool.not_true, Bool.or_true, Bool.and_true, Bool.or_self, Bool.and_self] at i1 ⊢
        rw [i1, hc _ d m q (by omega)]
        simp only [if_true, ← List.append_assoc, ← rep_add]
        congr 2; omega
    · obtain ⟨d, rfl⟩ : ∃ d, q = d + (p + m + d) := ⟨q - 2 ^ n, by omega⟩
      have e : List.replicate p x ++ (List.replicate m (!x) ++ List.replicate (d + (p + m + d)) x)
          = (List.replicate p x ++ (List.replicate m (!x) ++ List.replicate d x))
            ++ (List.replicate p x ++ (List.replicate m x ++ List.replicate d x)) := by
        simp only [rep_add, List.append_assoc]
      rw [e, bitMerge_three n p m d (by omega)]
      have i1 := ih x p m d (by omega)
      cases x
      · simp only [Bool.not_false, Bool.false_or, Bool.false_and, Bool.or_self, Bool.and_self] at i1 ⊢
        rw [i1, hc _ p m d (by omega)]
        simp only [Bool.false_eq_true, if_false, List.append_assoc, ← rep_add]
        congr 2; omega
      · simp only [Bool.not_true, Bool.true_or, Bool.true_and, Bool.or_self, Bool.and_self] at i1 ⊢
        rw [i1, hc _ p m d (by omega)]
        simp only [if_true, ← List.append_assoc, ← rep_add]
        congr 2; omega
    · obtain ⟨i, k, j, hi, hk, rfl, hm⟩ : ∃ i k j, p = i + j ∧ q = j + k ∧ m = i + k ∧ i + j + k = 2 ^ n :=
        ⟨2 ^ n - q, 2 ^ n - p, p + q - 2 ^ n, by omega, by omega, by omega, by omega⟩
      subst hi hk
      have e : List.replicate (i + j) x ++ (List.replicate (i + k) (!x) ++ List.replicate (j + k) x)
          = (List.replicate i x ++ (List.replicate j x ++ List.replicate k (!x)))
            ++ (List.replicate i (!x) ++ (List.replicate j x ++ List.replicate k x)) := by
        rw [Nat.add_comm i k]
        simp only [rep_add, List.append_assoc]
      rw [e, bitMerge_three n i j k hm]
      have i1 := ih (!x) i j k hm
      cases x
      · simp only [Bool.not_false, Bool.not_true, Bool.or_false, Bool.and_false, Bool.or_true, Bool.and_true, if_true] at i1 ⊢
        rw [i1, hc _ i j k hm]
        simp only [Bool.false_eq_true, if_false, List.append_assoc, ← rep_add]
        congr 2; omega
      · simp only [Bool.not_false, Bool.not_true, Bool.or_false, Bool.and_false, Bool.or_true, Bool.and_true, Bool.false_eq_true,
          if_false] at i1 ⊢
        rw [i1, hc _ i j k hm]
        simp only [if_true, ← List.append_assoc, ← rep_add]
        congr 2; omega
    · obtain ⟨j, rfl, hm⟩ : ∃ j, m = q + j + p + j ∧ p + j + q = 2 ^ n := ⟨2 ^ n - p - q, by omega, by omega⟩
      have e : List.replicate p x ++ (List.replicate (q + j + p + j) (!x) ++ List.replicate q x)
          = (List.replicate p x ++ (List.replicate j (!x) ++ List.replicate q (!x)))
            ++ (List.replicate p (!x) ++ (List.replicate j (!x) ++ List.replicate q x)) := by
        rw [show q + j + p + j = j + (q + (p + j)) by omega]
        simp only [rep_add, List.append_assoc]
      rw [e, bitMerge_three n p j q hm]
      have i1 := ih x p j q hm
      cases x
      · simp only [Bool.not_false, Bool.or_false, Bool.and_false, Bool.or_true, Bool.and_true, Bool.false_eq_true, if_false] at i1 ⊢
        rw [i1, hc _ p j q hm]
        simp only [← List.append_assoc, ← rep_add]
        congr 2; omega
      · simp only [Bool.not_true, Bool.or_false, Bool.and_false, Bool.or_true, Bool.and_true, if_true] at i1 ⊢
        rw [i1, hc _ p j q hm]
        simp only [List.append_assoc, ← rep_add]
        congr 2; omega

theorem mergeInto_desc (p q : ℕ) (hp : p ≤ 64) (hq : q ≤ 64) :
    mergeInto and or 6 (desc 64 p) (asc 64 q) = desc 64 (min 64 (p + q)) := by
  unfold mergeInto desc asc
  rcases Nat.le_total 64 (p + q) with h | h
  · obtain ⟨i, j, k, rfl, rfl, hn⟩ : ∃ i j k, p = i + j ∧ q = j + k ∧ i + j + k = 64 :=
      ⟨64 - q, p + q - 64, 64 - p, by omega, by omega, by omega⟩
    rw [show 64 - (i + j) = k by omega, show 64 - (j + k) = i by omega, rep_add i j, rep_add j k, List.append_assoc, zip_three]
    have e := bitMerge_sorted 6 true 64 0 0 rfl
    simp only [if_true, List.replicate_zero, List.append_nil, Nat.add_zero] at e
    simp only [Bool.or_false, Bool.or_self, Bool.false_or]
    rw [← rep_add, ← rep_add, ← Nat.add_assoc, hn, Nat.min_eq_left h, Nat.sub_self, List.replicate_zero, List.append_nil]
    exact e
  · obtain ⟨j, hn⟩ : ∃ j, p + j + q = 64 := ⟨64 - p - q, by omega⟩
    rw [show 64 - p = j + q by omega, show 64 - q = p + j by omega, rep_add j q, rep_add p j, List.append_assoc, zip_three]
    have e := bitMerge_sorted 6 true p j q (by omega)
    rw [Nat.min_eq_right h, show 64 - (p + q) = j by omega]
    exact e

theorem oeSort_bool (n : ℕ) (l : List Bool) (hl : l.length = 2 ^ n) :
    oeSort and or n l = asc (2 ^ n) (l.count true) := by
  induction n generalizing l with
  | zero =>
    match l, hl with
    | [true], _ => rfl
    | [false], _ => rfl
  | succ n ih =>
    have h2 : 2 ^ (n + 1) = 2 ^ n + 2 ^ n := by omega
    have h1 : (l.take (2 ^ n)).length = 2 ^ n := by rw [List.length_take]; omega
    have h3 : (l.drop (2 ^ n)).length = 2 ^ n := by rw [List.length_drop]; omega
    have hc : l.count true = (l.take (2 ^ n)).count true + (l.drop (2 ^ n)).count true := by
      rw [← List.count_append, List.take_append_drop]
    rw [oeSort, ih _ h1, ih _ h3, hc]
    exact oeMerge_asc n _ _ (List.count_le_length.trans h1.le) (List.count_le_length.trans h3.le)

theorem runSets_bool (p : ℕ) (hp : p ≤ 64) (sets : List (List Bool)) (hs : ∀ a ∈ sets, a.length = 64) :
    runSets and or 6 (desc 64 p) sets = desc 64 (min 64 (p + (sets.map (List.count true)).sum)) := by
  induction sets generalizing p with
  | nil => simp only [runSets, List.foldl_nil, List.map_nil, List.sum_nil, Nat.add_zero, Nat.min_eq_right hp]
  | cons a sets ih =>
    have ha : a.length = 2 ^ 6 := hs a (List.mem_cons_self ..)
    have hq : a.count true ≤ 64 := List.count_le_length.trans ha.le
    have := ih (min 64 (p + a.count true)) (Nat.min_le_left ..) (fun b hb => hs b (List.mem_cons_of_mem _ hb))
    simp only [runSets, List.foldl_cons, List.map_cons, List.sum_cons] at this ⊢
    rw [oeSort_bool 6 a ha, show 2 ^ 6 = 64 from rfl, mergeInto_desc p _ hp hq, this]
    congr 1
    omega

theorem desc_getElem? (k j : ℕ) (hj : j < 64) (hk : k ≤ 64) : (desc 64 k)[j]? = some (decide (j < k)) := by
  unfold desc
  by_cases h : j < k
  · rw [List.getElem?_append_left (by simpa using h), List.getElem?_replicate, if_pos h, decide_eq_true h]
  · rw [List.getElem?_append_right (by simpa using Nat.le_of_not_lt h), List.getElem?_replicate, decide_eq_false h,
      if_pos (by rw [List.length_replicate]; omega)]

/-- A list of 64 places of which the first `k` are true. -/
theorem eq_desc (f : Fin 64 → Bool) (k : ℕ) (hk : k ≤ 64) (h : ∀ p, f p = decide (p.val < k)) :
    (List.finRange 64).map f = desc 64 k := by
  apply List.ext_getElem?
  intro j
  by_cases hj : j < 64
  · rw [desc_getElem? k j hj hk]
    simp [hj, h]
  · rw [List.getElem?_eq_none (by simpa using hj), List.getElem?_eq_none (by simp [desc]; omega)]

end Cert.Net
-- ==== Proof.Step.lean ====
/-
  A grid point's work over the extended reals, read through a threshold: at one sublane and one lane, if the running registers that
  are above the threshold are the first `k`, then after the step they are the first `k` plus as many as the block has entries above
  the threshold there, and at most all 64 (`step_over`). Then how the stores and loads of the body read at an index.
-/
module

public import proofs.«01_k».proof.Proof.Link
public import proofs.«01_k».proof.Proof.NetSort
public import Idealize.ShloMosaic.Lib.Pipeline.Value
public import Idealize.ShloMosaic.Lib.Writes
public import Idealize.ShloMosaic.Lib.VecWindow
public import Idealize.ShloMosaic.Lib.IdealHost
public import Idealize.ShloMosaic.Lib.Pointwise
public import Mathlib.Algebra.BigOperators.Fin

@[expose] public section

noncomputable section

namespace Cert.Step

open Cert.KernelIdeal Cert.KernelIdeal.Gen Idealize.ShloMosaic Idealize.ShloMosaic.TcCoe Idealize.SL.Sem
open Cert.Link Cert.Net

/-! ## Registers above a threshold -/

/-- Whether a register's entry at sublane `q` and lane `l` is above `t`. -/
def over (t : EReal) (q : Fin 8) (l : Fin 128) (v : FVec Ideal S8x128 .f32) : Bool := decide (t < (v (ix2 q l) : EReal))

theorem over_minimumf (t : EReal) (q : Fin 8) (l : Fin 128) (a b : FVec Ideal S8x128 .f32) :
    over t q l (minimumf a b) = (over t q l a && over t q l b) := by
  have h : (minimumf a b (ix2 q l) : EReal) = min (a (ix2 q l) : EReal) (b (ix2 q l)) := rfl
  unfold over
  rw [h, ← Bool.decide_and]
  exact decide_eq_decide.mpr lt_min_iff

theorem over_maximumf (t : EReal) (q : Fin 8) (l : Fin 128) (a b : FVec Ideal S8x128 .f32) :
    over t q l (maximumf a b) = (over t q l a || over t q l b) := by
  have h : (maximumf a b (ix2 q l) : EReal) = max (a (ix2 q l) : EReal) (b (ix2 q l)) := rfl
  unfold over
  rw [h, ← Bool.decide_or]
  exact decide_eq_decide.mpr lt_max_iff

/-- How many of a list of truth values hold. -/
theorem count_map_finRange {n : ℕ} (f : Fin n → Bool) :
    List.count true ((List.finRange n).map f) = ∑ p : Fin n, if f p = true then 1 else 0 := by
  have h : ∀ l : List Bool, List.count true l = (l.map fun b => if b = true then 1 else 0).sum := by
    intro l
    induction l with
    | nil => rfl
    | cons b l ih => cases b <;> simp [ih, Nat.add_comm]
  rw [h, List.map_map, Fin.sum_univ_def]
  rfl

/-- The step, read through a threshold. -/
theorem step_over (r : Fin 64 → FVec Ideal S8x128 .f32) (a : Fin 8 → Fin 64 → FVec Ideal S8x128 .f32) (t : EReal) (q : Fin 8)
    (l : Fin 128) (k : ℕ) (hk : k ≤ 64) (h : ∀ p, over t q l (r p) = decide (p.val < k)) :
    (step r a).map (over t q l)
      = desc 64 (min 64 (k + ∑ s : Fin 8, ∑ p : Fin 64, if over t q l (a s p) = true then 1 else 0)) := by
  unfold step
  rw [map_runSets _ (over_minimumf t q l) (over_maximumf t q l), List.map_map, List.map_map]
  rw [show (List.finRange 64).map (over t q l ∘ r) = desc 64 k from eq_desc _ k hk h]
  rw [runSets_bool k hk _ (by
    intro x hx
    obtain ⟨s, -, rfl⟩ := List.mem_map.mp hx
    simp)]
  rw [List.map_map, Fin.sum_univ_def]
  refine congrArg (fun n => desc 64 (min 64 (k + List.sum n))) (List.map_congr_left fun s _ => ?_)
  show List.count true (((List.finRange 64).map (a s)).map (over t q l)) = _
  rw [List.map_map, count_map_finRange]
  rfl

theorem length_desc (k : ℕ) (hk : k ≤ 64) : (desc 64 k).length = 64 := by
  unfold desc
  simp only [List.length_append, List.length_replicate]
  omega

/-- The registers of a step, by position. -/
theorem step_registers (r : Fin 64 → FVec Ideal S8x128 .f32) (a : Fin 8 → Fin 64 → FVec Ideal S8x128 .f32)
    (ks : EReal → Fin 8 → Fin 128 → ℕ) (hk : ∀ t q l, ks t q l ≤ 64)
    (h : ∀ t q l p, over t q l (r p) = decide (p.val < ks t q l)) :
    ∃ g : Fin 64 → FVec Ideal S8x128 .f32, step r a = (List.finRange 64).map g ∧
      ∀ t q l p, t < (g p (ix2 q l) : EReal)
        ↔ p.val < min 64 (ks t q l + ∑ s : Fin 8, ∑ p : Fin 64, if t < (a s p (ix2 q l) : EReal) then 1 else 0) := by
  have e := fun t q l => step_over r a t q l (ks t q l) (hk t q l) (h t q l)
  have hl : (step r a).length = 64 := by
    have := congrArg List.length (e 0 0 0)
    rwa [List.length_map, length_desc _ (Nat.min_le_left _ _)] at this
  refine ⟨fun p => (step r a)[p.val]'(by rw [hl]; exact p.isLt), ?_, ?_⟩
  · refine List.ext_getElem (by simp [hl]) fun i h1 h2 => ?_
    simp
  · intro t q l p
    have e' := congrArg (fun L => L[p.val]?) (e t q l)
    simp only [desc_getElem? _ p.val p.isLt (Nat.min_le_left _ _), List.getElem?_map,
      List.getElem?_eq_getElem (show p.val < (step r a).length by rw [hl]; exact p.isLt), Option.map_some, Option.some.injEq] at e'
    unfold over at e'
    simp only [decide_eq_true_eq] at e'
    exact decide_eq_decide.mp e'

/-! ## Stores and loads at an index -/

variable {F : FTy → Type} [FloatOps F]

/-- Row `8 p + q` of the running rows. -/
abbrev row (p : Fin 64) (q : Fin 8) : Fin 512 := ⟨8 * p.val + q.val, by omega⟩

theorem pieces_map (g : Fin 64 → FVec F S8x128 .f32) :
    pieces ((List.finRange 64).map g) = ((List.finRange 64).map fun p => piece p (g p)).reverse := by
  unfold pieces
  rw [List.zipWith_map_right, List.zipWith_self]

theorem emb_rectR (p : Fin 64) (q : Fin 8) (l : Fin 128) : (rectR p).emb (ix2 q l) = ix2 (row p q) l := by
  funext a
  apply Fin.ext
  match a with
  | ⟨0, _⟩ => show 8 * p.val + 1 * q.val = 8 * p.val + q.val; omega
  | ⟨1, _⟩ => show 0 + 1 * l.val = l.val; omega

theorem emb_rectX (s : Fin 8) (p : Fin 64) (q : Fin 8) (l : Fin 128) :
    (rectX s p).emb (ix2 q l) = ix2 (⟨512 * s.val + 8 * p.val + q.val, by omega⟩ : Fin 4096) l := by
  funext a
  apply Fin.ext
  match a with
  | ⟨0, _⟩ => show 512 * s.val + 8 * p.val + 1 * q.val = 512 * s.val + 8 * p.val + q.val; omega
  | ⟨1, _⟩ => show 0 + 1 * l.val = l.val; omega

/-- What the 64 stores leave at row `8 p + q`. -/
theorem read_pieces {sig : RefSig} {κ : Kind} {sp : Space} (v : View sig κ sp S512x128 .f32) (f : v.ty.Contents (Elt F))
    (g : Fin 64 → FVec F S8x128 .f32) (p : Fin 64) (q : Fin 8) (l : Fin 128) :
    v.read (Elt F) (v.writes (Elt F) f (pieces ((List.finRange 64).map g))) (ix2 (row p q) l) = g p (ix2 q l) := by
  rw [pieces_map]
  have key := View.read_writes_apply_of_pieces (Val := Elt F) v f
    (fun y : S512x128.Idx => g ⟨(y 0).val / 8, by have : (y 0).val < 512 := (y 0).isLt; omega⟩
      (ix2 (⟨(y 0).val % 8, Nat.mod_lt _ (by decide)⟩ : Fin 8) (y 1)))
    ((List.finRange 64).map fun p => piece p (g p)).reverse ?_ (ix2 (row p q) l) ?_
  · rw [key]
    have e1 : (⟨((ix2 (row p q) l : S512x128.Idx) 0).val / 8,
        by have : ((ix2 (row p q) l : S512x128.Idx) 0).val < 512 := ((ix2 (row p q) l : S512x128.Idx) 0).isLt; omega⟩ : Fin 64) = p :=
      Fin.ext (show (8 * p.val + q.val) / 8 = p.val by omega)
    have e2 : (⟨((ix2 (row p q) l : S512x128.Idx) 0).val % 8, Nat.mod_lt _ (by decide)⟩ : Fin 8) = q :=
      Fin.ext (show (8 * p.val + q.val) % 8 = q.val by omega)
    rw [e1, e2]
    rfl
  · intro pc hpc x
    obtain ⟨p', -, rfl⟩ := List.mem_map.mp (List.mem_reverse.mp hpc)
    have hx : x = ix2 (x 0) (x 1) := by
      funext a
      match a with
      | ⟨0, _⟩ => rfl
      | ⟨1, _⟩ => rfl
    show shapeCast S8x128 (g p') shapeCasts_S8x128_S8x128 x = _
    rw [shapeCast_self]
    have h0 : (x 0).val < 8 := (x 0).isLt
    have e1 : (⟨(((rectR p').emb x) 0).val / 8,
        by have : (((rectR p').emb x) 0).val < 512 := (((rectR p').emb x) 0).isLt; omega⟩ : Fin 64) = p' :=
      Fin.ext (show (8 * p'.val + 1 * (x 0).val) / 8 = p'.val by omega)
    have e2 : (⟨(((rectR p').emb x) 0).val % 8, Nat.mod_lt _ (by decide)⟩ : Fin 8) = x 0 :=
      Fin.ext (show (8 * p'.val + 1 * (x 0).val) % 8 = (x 0).val by omega)
    have e3 : ((rectR p').emb x) 1 = x 1 := Fin.ext (show 0 + 1 * (x 1).val = (x 1).val by omega)
    show _ = g ⟨(((rectR p').emb x) 0).val / 8, _⟩ (ix2 ⟨(((rectR p').emb x) 0).val % 8, _⟩ (((rectR p').emb x) 1))
    rw [e1, e2, e3]
    exact congrArg (g p') hx
  · refine ⟨piece p (g p), List.mem_reverse.mpr (List.mem_map.mpr ⟨p, List.mem_finRange p, rfl⟩), ?_⟩
    show ix2 (row p q) l ∈ (rectR p).set
    rw [← emb_rectR]
    rw [← Rect.map_emb_univ]
    exact Finset.mem_map_of_mem _ (Finset.mem_univ _)

variable (arg1 : Memref sig .tc .vmem S4096x128 .f32) (harg1 : arg1.IsWhole) (arg3 : Memref sig .tc .vmem S512x128 .f32)
  (harg3 : arg3.IsWhole)

theorem loadX_apply (x : Vec F S4096x128 .f32) (s : Fin 8) (p : Fin 64) (q : Fin 8) (l : Fin 128) :
    loadX arg1 harg1 x s p (ix2 q l) = x (ix2 (⟨512 * s.val + 8 * p.val + q.val, by omega⟩ : Fin 4096) l) := by
  unfold loadX
  rw [View.readAt_eq_ld, harg1.read_unread]
  exact congrArg x (emb_rectX s p q l)

theorem loadR_apply (x : Vec F S512x128 .f32) (p : Fin 64) (q : Fin 8) (l : Fin 128) :
    loadR arg3 harg3 x p (ix2 q l) = x (ix2 (row p q) l) := by
  unfold loadR
  rw [View.readAt_eq_ld, harg3.read_unread]
  exact congrArg x (emb_rectR p q l)

theorem read_initial {sig : RefSig} {κ : Kind} {sp : Space} (v : View sig κ sp S512x128 .f32) (f : v.ty.Contents (Elt F))
    (y : S512x128.Idx) : v.read (Elt F) (v.writes (Elt F) f [initial]) y = FloatOps.ofBits .f32 0xFF800000#32 := by
  unfold initial
  rw [View.read_writes_full, shapeCast_self]
  rfl

theorem loadI_apply (p : Fin 64) (x : S8x128.Idx) :
    loadI (F := F) arg3 p x = FloatOps.ofBits .f32 0xFF800000#32 := by
  unfold loadI View.readCov
  rw [View.readAt_eq_ld]
  exact read_initial _ _ _

theorem read_all (v : View sig .tc .vmem S512x128 .f32) (L : List (View.Piece (Elt F) S512x128 .f32)) (y : S512x128.Idx) :
    v.readCov L rectAll.toLoadRect y = v.read (Elt F) (v.writes (Elt F) v.junk L) y := by
  unfold View.readCov
  rw [View.readAt_full]

end Cert.Step
-- ==== Proof.Count.lean ====
/-
  Counting: the entries of a sorted arrangement above a threshold are its first places, as many as there are entries above it
  (`lt_sorted_iff`); a sum over rows taken block by block (`sum_range_mul`); and places below 64 do not see counts cut at 64
  (`lt_sum_min_iff`).
-/
module

public import Mathlib.Data.Fintype.Card
public import Mathlib.Order.Interval.Finset.Fin
public import Mathlib.Algebra.BigOperators.Group.Finset.Basic
public import Mathlib.Algebra.BigOperators.Fin
public import Mathlib.Algebra.BigOperators.Intervals

@[expose] public section

namespace Cert.Count

/-- In an arrangement `y` of `x`, greatest first, place `k` is above `t` exactly if more than `k` entries of `x` are. -/
theorem lt_sorted_iff {α : Type*} [LinearOrder α] {n : ℕ} (x y : Fin n → α) (σ : Equiv.Perm (Fin n)) (h : y = x ∘ σ)
    (hy : Antitone y) (t : α) (k : Fin n) : t < y k ↔ k.val < (Finset.univ.filter fun j => t < x j).card := by
  have hc : (Finset.univ.filter fun j => t < x j).card = (Finset.univ.filter fun j => t < y j).card := by
    subst h
    refine (Finset.card_bij (fun j _ => σ j) (fun j hj => ?_) (fun a _ b _ e => σ.injective e) (fun b hb => ⟨σ.symm b, ?_, ?_⟩)).symm
    · simpa using hj
    · simpa using hb
    · simp
  rw [hc]
  constructor
  · intro ht
    have hs : Finset.Iic k ⊆ Finset.univ.filter fun j => t < y j := fun j hj => by
      rw [Finset.mem_filter]
      exact ⟨Finset.mem_univ _, lt_of_lt_of_le ht (hy (Finset.mem_Iic.mp hj))⟩
    have := Finset.card_le_card hs
    rw [Fin.card_Iic] at this
    omega
  · intro hk
    by_contra ht
    have hs : (Finset.univ.filter fun j => t < y j) ⊆ Finset.Iio k := fun j hj => by
      rw [Finset.mem_filter] at hj
      rw [Finset.mem_Iio]
      by_contra hjk
      exact ht (lt_of_lt_of_le hj.2 (hy (not_lt.mp hjk)))
    have := Finset.card_le_card hs
    rw [Fin.card_Iio] at this
    omega

/-- A sum over `m` blocks of `n` rows. -/
theorem sum_range_mul (f : ℕ → ℕ) (n m : ℕ) :
    ∑ i ∈ Finset.range (n * m), f i = ∑ a ∈ Finset.range m, ∑ b ∈ Finset.range n, f (n * a + b) := by
  induction m with
  | zero => simp
  | succ m ih => rw [Nat.mul_succ, Finset.sum_range_add, ih, Finset.sum_range_succ]

/-- The number of places below `n` where `p` holds, as a sum. -/
theorem card_filter_fin (n : ℕ) (p : Fin n → Prop) [DecidablePred p] (f : ℕ → ℕ) (h : ∀ i : Fin n, f i.val = if p i then 1 else 0) :
    (Finset.univ.filter p).card = ∑ i ∈ Finset.range n, f i := by
  rw [Finset.card_filter, Finset.sum_range]
  exact Finset.sum_congr rfl fun i _ => (h i).symm

theorem min_sum_min (K : ℕ → ℕ) (n : ℕ) :
    min 64 (∑ s ∈ Finset.range n, min 64 (K s)) = min 64 (∑ s ∈ Finset.range n, K s) := by
  induction n with
  | zero => rfl
  | succ n ih => rw [Finset.sum_range_succ, Finset.sum_range_succ]; omega

/-- A place below 64 is below a sum of counts exactly if it is below the sum of the counts cut at 64. -/
theorem lt_sum_min_iff (K : ℕ → ℕ) (n i : ℕ) (hi : i < 64) :
    i < ∑ s ∈ Finset.range n, min 64 (K s) ↔ i < ∑ s ∈ Finset.range n, K s := by
  have := min_sum_min K n
  omega

/-- The number of places below 64 that are below `k`. -/
theorem sum_lt (k : ℕ) (n : ℕ) : (∑ p ∈ Finset.range n, if p < k then 1 else 0) = min n k := by
  induction n with
  | zero => simp
  | succ n ih => rw [Finset.sum_range_succ, ih]; split <;> omega

end Cert.Count
-- ==== Proof.FinalSort.lean ====
/-
  The final sort over the extended reals. A stage, under the directions' signs, is one stage of the bitonic network at every column
  (`stageV_signed`); the nine levels are the whole network, so the sorted rows are the rows' entries, greatest first, and row `i` of
  the output is above a threshold exactly if more than `i` of the 512 rows are (`lt_sortedV_iff`).
-/
module

public import proofs.«01_k».proof.Proof.Final
public import proofs.«01_k».proof.Proof.Count
public import Idealize.ShloMosaic.Lib.SortNet.Sorts
public import Idealize.ShloMosaic.Lib.IdealHost
public import Idealize.ShloMosaic.Lib.Pointwise
public import Mathlib.Data.Nat.Bitwise

@[expose] public section

noncomputable section

namespace Cert.Final

open Cert.KernelIdeal Cert.KernelIdeal.Gen Idealize.ShloMosaic Idealize.ShloMosaic.TcCoe Idealize.ShloMosaic.SortNet

/-- A bit is clear. -/
theorem clear_iff (x s : ℕ) : x &&& 2 ^ s = 0 ↔ x.testBit s = false := by
  rw [Nat.and_two_pow]
  cases x.testBit s <;> simp

/-- Bit `k` of a row number, as a word. -/
theorem bit_word : ∀ k : Fin 9, ∀ p : Fin 512,
    IntOp.andi (IntOp.shrsi .vector (BitVec.ofNat 32 p.val) (BitVec.ofNat 32 k.val)) 1#32
      = if p.val &&& 2 ^ k.val = 0 then 0#32 else 1#32 := by
  decide +kernel

theorem bitM_apply (k : ℕ) (hk : k < 9) (p : Fin 512) (c : Fin 128) :
    bitM (F := Ideal) k (ix2 p c) = if p.val &&& 2 ^ k = 0 then (0 : EReal) else 1 := by
  have h : bitM (F := Ideal) k (ix2 p c)
      = (((IntOp.andi (IntOp.shrsi .vector (iota .tc S512x128 32 [0] iota_S512x128_d0_w32 (ix2 p c)) (BitVec.ofNat 32 k)) 1#32).toInt : ℝ)
          : EReal) := rfl
  rw [h, iota_single_apply]
  have e := bit_word ⟨k, hk⟩ p
  have e' : ((ix2 p c : S512x128.Idx) 0).val = p.val := rfl
  rw [e', e]
  split <;> simp

theorem lowM_apply (k : ℕ) (hk : k < 9) (p : Fin 512) (c : Fin 128) :
    lowM (F := Ideal) k (ix2 p c) = if p.val &&& 2 ^ k = 0 then (1 : EReal) else 0 := by
  have h : lowM (F := Ideal) k (ix2 p c) = (Ideal.ofBits .f32 0x3F800000#32 : EReal) - bitM (F := Ideal) k (ix2 p c) := rfl
  rw [h, bitM_apply k hk, Ideal.ofBits_one_f32]
  split
  · exact sub_zero _
  · exact EReal.sub_self (by decide) (by decide)

/-- The direction at level `k` of a row. -/
def dir (k : ℕ) (p : ℕ) : EReal := if p &&& 2 ^ k = 0 then 1 else -1

theorem ofBits_two_f32 : Ideal.ofBits .f32 0x40000000#32 = 2 := by
  rw [show (2 : EReal) = ((2 : ℝ) : EReal) by norm_cast]
  simp [Ideal.ofBits, Ideal.ieee, -EReal.coe_mul]
  norm_num

theorem dirM_apply (k : ℕ) (hk : k ≤ 9) (p : Fin 512) (c : Fin 128) : dirM (F := Ideal) k (ix2 p c) = dir k p.val := by
  unfold dirM dir
  split
  · rename_i h
    subst h
    have e : p.val &&& 2 ^ 9 = 0 := (clear_iff _ _).mpr (Nat.testBit_lt_two_pow p.isLt)
    rw [if_pos e]
    exact Ideal.ofBits_one_f32
  · have h : signM (F := Ideal) k (ix2 p c)
        = (Ideal.ofBits .f32 0x3F800000#32 : EReal) - Ideal.ofBits .f32 0x40000000#32 * bitM (F := Ideal) k (ix2 p c) := rfl
    rw [h, bitM_apply k (by omega), Ideal.ofBits_one_f32, ofBits_two_f32]
    split
    · rw [mul_zero, sub_zero]
    · rw [mul_one]
      rw [show (1 : EReal) = ((1 : ℝ) : EReal) from rfl, show (2 : EReal) = ((2 : ℝ) : EReal) by norm_cast, ← EReal.coe_sub,
        ← EReal.coe_neg]
      norm_num

theorem rotV_apply (n : ℕ) (h : n ≤ 512) (y : FVec Ideal S512x128 .f32) (p q : Fin 512) (c : Fin 128)
    (hq : q.val = (p.val + n) % 512) : rotV n h y (ix2 p c) = y (ix2 q c) := by
  have hp := p.isLt
  unfold rotV
  by_cases hl : p.val < 512 - n
  · rw [Nat.mod_eq_of_lt (by omega)] at hq
    refine (concatenate_pair_apply_left (t := S512x128) (s₁ := rows (512 - n)) (s₂ := rows n) 0 _ _ _ (ix2 p c) rfl (ix2 ⟨p.val, hl⟩ c : (rows (512 - n)).Idx) ?_).trans ?_
    · intro b
      match b with
      | ⟨0, _⟩ => rfl
      | ⟨1, _⟩ => rfl
    · refine extractStridedSlice_apply _ y _ _ (ix2 q c) ?_
      intro a
      match a with
      | ⟨0, _⟩ => show q.val = n + p.val; omega
      | ⟨1, _⟩ => show c.val = 0 + c.val; omega
  · have hq' : q.val = p.val + n - 512 := by rw [hq, Nat.mod_eq_sub_mod (by omega), Nat.mod_eq_of_lt (by omega)]
    refine (concatenate_pair_apply_right (t := S512x128) (s₁ := rows (512 - n)) (s₂ := rows n) 0 _ _ _ (ix2 p c) rfl rfl
      (ix2 ⟨p.val - (512 - n), by omega⟩ c : (rows n).Idx) ?_ ?_).trans ?_
    · intro b hb
      match b with
      | ⟨0, _⟩ => exact absurd rfl hb
      | ⟨1, _⟩ => rfl
    · show p.val - (512 - n) + (512 - n) = p.val
      omega
    · refine extractStridedSlice_apply _ y _ _ (ix2 q c) ?_
      intro a
      match a with
      | ⟨0, _⟩ => show q.val = 0 + (p.val - (512 - n)); omega
      | ⟨1, _⟩ => show c.val = 0 + c.val; omega

/-- A stage at a row: the larger of the row and its partner where the stage's bit is clear, the smaller where it is set. -/
theorem stageV_apply (s : ℕ) (hs : s < 9) (y : FVec Ideal S512x128 .f32) (p : Fin (2 ^ 9)) (c : Fin 128) :
    stageV s y (ix2 p c) = if p.val &&& 2 ^ s = 0 then max (y (ix2 p c) : EReal) (y (ix2 (partner 9 s p) c))
      else min (y (ix2 p c) : EReal) (y (ix2 (partner 9 s p) c)) := by
  have hp := p.isLt
  have hd : dist s = 2 ^ s := Nat.mod_eq_of_lt (Nat.pow_lt_pow_right (by decide) hs)
  have h : stageV s y (ix2 p c)
      = (lowM (F := Ideal) s (ix2 p c) * max (y (ix2 p c) : EReal) (rotV (dist s) (Nat.le_of_lt (dist_lt s)) y (ix2 p c))
        + bitM (F := Ideal) s (ix2 p c) * min (y (ix2 p c) : EReal) (rotV (512 - dist s) (Nat.sub_le _ _) y (ix2 p c)) : EReal) := rfl
  rw [h, lowM_apply s hs, bitM_apply s hs]
  split
  · rename_i h0
    have e := partner_val_of_clear hs p h0
    have hb := (partner 9 s p).isLt
    rw [rotV_apply _ _ y p (partner 9 s p) c (by rw [hd, e, Nat.mod_eq_of_lt (by omega)])]
    simp only [one_mul, zero_mul, add_zero]
  · rename_i h0
    have e := partner_val_of_set hs p h0
    rw [rotV_apply (512 - dist s) _ y p (partner 9 s p) c (by
      rw [hd, e.2, show p.val + (512 - 2 ^ s) = p.val - 2 ^ s + 512 by omega, Nat.add_mod_right, Nat.mod_eq_of_lt (by omega)])]
    simp only [one_mul, zero_mul, zero_add]

/-- A column of the rows. -/
def col (y : FVec Ideal S512x128 .f32) (c : Fin 128) : Fin (2 ^ 9) → EReal := fun p => y (ix2 p c)

theorem dir_mul_self (k p : ℕ) : dir k p * dir k p = 1 := by
  unfold dir
  split <;> simp

/-- A stage below the directions' bit is the network's stage under the directions. -/
theorem stageV_signed (s l : ℕ) (hs : s < 9) (hl : s < l) (y : FVec Ideal S512x128 .f32) (c : Fin 128) (z : Fin (2 ^ 9) → EReal)
    (h : ∀ p, col y c p = dir l p.val * z p) (p : Fin (2 ^ 9)) :
    col (stageV s y) c p = dir l p.val * Network.apply (stage 9 s fun i => decide (i.val &&& 2 ^ l = 0) == true) z p := by
  have hbit : ∀ q : Fin (2 ^ 9), ((partner 9 s q).val &&& 2 ^ l = 0) ↔ (q.val &&& 2 ^ l = 0) := by
    intro q
    rw [partner_val hs, clear_iff, clear_iff, Nat.testBit_xor, Nat.testBit_two_pow_of_ne (Nat.ne_of_lt hl), Bool.xor_false]
  have h1 := h p
  have h2 := h (partner 9 s p)
  have hd : dir l (partner 9 s p).val = dir l p.val := by unfold dir; simp only [hbit]
  rw [hd] at h2
  unfold col at h1 h2 ⊢
  rw [stageV_apply s hs, h1, h2]
  have key : Network.apply (stage 9 s fun i => decide (i.val &&& 2 ^ l = 0) == true) z p
      = if (decide (p.val &&& 2 ^ l = 0)) = decide (p.val &&& 2 ^ s = 0) then max (z p) (z (partner 9 s p))
        else min (z p) (z (partner 9 s p)) := by
    by_cases h0 : p.val &&& 2 ^ s = 0
    · rw [(apply_stage hs _ z p h0).1]
      simp only [h0, beq_true, decide_true]
    · have e := (apply_stage hs (fun i => decide (i.val &&& 2 ^ l = 0) == true) z (partner 9 s p) (partner_and_of_set hs p h0)).2
      rw [partner_partner hs] at e
      rw [e]
      simp only [h0, hbit, beq_true, decide_false, max_comm (z (partner 9 s p)), min_comm (z (partner 9 s p))]
      by_cases h3 : p.val &&& 2 ^ l = 0 <;> simp [h3]
  rw [key]
  unfold dir
  by_cases h0 : p.val &&& 2 ^ s = 0 <;> by_cases h3 : p.val &&& 2 ^ l = 0 <;>
    simp only [h0, h3, if_true, if_false, decide_true, decide_false, one_mul, neg_mul, Bool.false_eq_true, reduceCtorEq, EReal.max_neg_neg, EReal.min_neg_neg]

/-- A change of directions. -/
theorem turnV_signed (l : ℕ) (hl : l < 9) (y : FVec Ideal S512x128 .f32) (c : Fin 128) (z : Fin (2 ^ 9) → EReal)
    (h : ∀ p, col y c p = dir l p.val * z p) (p : Fin (2 ^ 9)) : col (turnV l y) c p = dir (l + 1) p.val * z p := by
  have e : col (turnV l y) c p = (col y c p * (dirM (F := Ideal) (l + 1) (ix2 p c) * dirM (F := Ideal) l (ix2 p c)) : EReal) := rfl
  rw [e, h, dirM_apply _ (by omega), dirM_apply _ (by omega)]
  rw [mul_comm (dir (l + 1) p.val), ← mul_assoc, mul_right_comm (dir l p.val), dir_mul_self, one_mul, mul_comm]

/-- The stages `n - 1, …, 0` under a level's directions. -/
theorem stagesV_signed {α : Type} (l : ℕ) (k : FVec Ideal S512x128 .f32 → α) (n : ℕ) (hn : n ≤ 9) (hl : n ≤ l)
    (y : FVec Ideal S512x128 .f32) (z : Fin 128 → Fin (2 ^ 9) → EReal) (h : ∀ c p, col y c p = dir l p.val * z c p) :
    ∃ y', stagesV n k y = k y' ∧ ∀ c p, col y' c p = dir l p.val
      * Network.apply ((List.range n).reverse.flatMap fun s => stage 9 s fun i => decide (i.val &&& 2 ^ l = 0) == true) (z c) p := by
  induction n generalizing y z with
  | zero => exact ⟨y, rfl, h⟩
  | succ n ih =>
    obtain ⟨y', h1, h2⟩ := ih (by omega) (by omega) (stageV n y) _ fun c p => stageV_signed n l (by omega) (by omega) y c (z c) (h c) p
    refine ⟨y', h1, fun c p => ?_⟩
    rw [h2 c p, List.range_succ, List.reverse_append, List.reverse_singleton, List.singleton_append, List.flatMap_cons,
      Network.apply_append]

/-- The levels from `l` on. -/
theorem levelsV_signed {α : Type} (k : FVec Ideal S512x128 .f32 → α) (n l : ℕ) (hl : l + n ≤ 9) (y : FVec Ideal S512x128 .f32)
    (z : Fin 128 → Fin (2 ^ 9) → EReal) (h : ∀ c p, col y c p = dir l p.val * Network.apply (levelsNet 9 true l) (z c) p) :
    ∃ y', levelsV l n k y = k y' ∧ ∀ c p, col y' c p = dir (l + n) p.val * Network.apply (levelsNet 9 true (l + n)) (z c) p := by
  induction n generalizing l y with
  | zero => exact ⟨y, rfl, h⟩
  | succ n ih =>
    obtain ⟨y1, h1, h2⟩ := stagesV_signed (l + 1) (levelsV (l + 1) n k) (l + 1) (by omega) (by omega) (turnV l y) _
      fun c p => turnV_signed l (by omega) y c _ (h c) p
    obtain ⟨y2, h3, h4⟩ := ih (l + 1) (by omega) y1 fun c p => by
      rw [h2 c p, levelsNet_succ, Network.apply_append]
      rfl
    refine ⟨y2, h1.trans h3, fun c p => ?_⟩
    rw [h4 c p, show l + 1 + n = l + (n + 1) by omega]

/-- Row `i` of the sorted rows is above a threshold exactly if more than `i` of the rows are. -/
theorem lt_sortedV_iff (x : FVec Ideal S512x128 .f32) (t : EReal) (i : Fin 64) (c : Fin 128) :
    t < (sortedV x (ix2 i c) : EReal) ↔ i.val < (Finset.univ.filter fun p : Fin 512 => t < (x (ix2 p c) : EReal)).card := by
  obtain ⟨y, h1, h2⟩ := levelsV_signed topV 8 1
    (by omega) (levelOneV x) (fun c => col x c) fun c p => by
      have h0 : ∀ q, col (mulf (signM 1) x) c q = dir 1 q.val * col x c q := fun q => by
        rw [← dirM_apply 1 (by omega) q c]
        rfl
      exact stageV_signed 0 1 (by omega) (by omega) _ c _ h0 p
  have e : sortedV x (ix2 i c) = col y c ⟨i.val, by omega⟩ := by
    rw [sortedV, h1]
    refine extractStridedSlice_apply _ y _ _ (ix2 ⟨i.val, by omega⟩ c) ?_
    intro a
    match a with
    | ⟨0, _⟩ => show i.val = 0 + i.val; omega
    | ⟨1, _⟩ => show c.val = 0 + c.val; omega
  have e2 : col y c = Network.apply (sortNet 9 true) (col x c) := by
    funext p
    have e3 : dir 9 p.val = 1 := by
      unfold dir
      rw [if_pos]
      exact (clear_iff _ _).mpr (Nat.testBit_lt_two_pow p.isLt)
    rw [h2 c p, show 1 + 8 = 9 from rfl, e3, one_mul, sortNet_eq_levelsNet]
  obtain ⟨σ, hσ⟩ := Network.exists_perm (sortNet 9 true) (col x c)
  rw [e, e2]
  exact Count.lt_sorted_iff (n := 512) (col x c) _ σ hσ (sortNet_apply_antitone 9 _) t ⟨i.val, by omega⟩

end Cert.Final
-- ==== Proof.Rows.lean ====
/-
  The running rows over the grid, over the extended reals. After `n` grid points the running rows of one sublane hold, greatest
  first, the 64 greatest of that sublane's entries of the first `n` blocks of the array: through every threshold, register `p` is
  above it exactly if more than `p` of those entries are (`rows_after`). The last point's output is above a threshold at row `i`
  exactly if more than `i` rows of the whole array are (`lt_output_iff`).
-/
module

public import proofs.«01_k».proof.Proof.Step
public import proofs.«01_k».proof.Proof.FinalSort
public import proofs.«01_k».proof.Proof.Gen.KernelIdeal.Value

@[expose] public section

noncomputable section

namespace Cert.Rows

open Cert.KernelIdeal Cert.KernelIdeal.Gen Idealize.ShloMosaic Idealize.ShloMosaic.TcCoe Idealize.SL.Sem
open Cert.Link Cert.Net Cert.Step

/-! ## Counting the rows above a threshold -/

/-- One if row `n` of column `l` is above `t`, else zero; zero past the array. -/
def mark (A : FVec Ideal S131072x128 .f32) (t : EReal) (l : Fin 128) (n : ℕ) : ℕ :=
  if h : n < 131072 then (if t < (A (ix2 (⟨n, h⟩ : Fin 131072) l) : EReal) then 1 else 0) else 0

/-- How many entries of block `g` at sublane `q` are above `t`. -/
def blockCount (A : FVec Ideal S131072x128 .f32) (t : EReal) (q : ℕ) (l : Fin 128) (g : ℕ) : ℕ :=
  ∑ s ∈ Finset.range 8, ∑ p ∈ Finset.range 64, mark A t l (4096 * g + (512 * s + (8 * p + q)))

/-- How many entries of the first `n` blocks at sublane `q` are above `t`. -/
def count (A : FVec Ideal S131072x128 .f32) (t : EReal) (q : ℕ) (l : Fin 128) (n : ℕ) : ℕ :=
  ∑ g ∈ Finset.range n, blockCount A t q l g

/-- The sublanes' counts over the whole array make up the column's count. -/
theorem sum_count (A : FVec Ideal S131072x128 .f32) (t : EReal) (l : Fin 128) :
    ∑ q ∈ Finset.range 8, count A t q l 32 = ∑ n ∈ Finset.range 131072, mark A t l n := by
  rw [show (131072 : ℕ) = 4096 * 32 from rfl, Count.sum_range_mul]
  unfold count blockCount
  rw [Finset.sum_comm]
  refine Finset.sum_congr rfl fun g _ => ?_
  rw [show (4096 : ℕ) = 512 * 8 from rfl, Count.sum_range_mul, Finset.sum_comm]
  refine Finset.sum_congr rfl fun s _ => ?_
  rw [Finset.sum_comm]
  exact (Count.sum_range_mul (fun b => mark A t l (512 * 8 * g + (512 * s + b))) 8 64).symm

/-- The running rows hold what `K` counts. -/
def Holds (K : EReal → ℕ → Fin 128 → ℕ) (r : FVec Ideal S512x128 .f32) : Prop :=
  ∀ (t : EReal) (q : Fin 8) (l : Fin 128) (p : Fin 64), t < (r (ix2 (row p q) l) : EReal) ↔ p.val < min 64 (K t q.val l)

/-- A block of the array, at block number `g`. -/
def IsBlock (A : FVec Ideal S131072x128 .f32) (g : ℕ) (x : FVec Ideal S4096x128 .f32) : Prop :=
  ∀ (i : Fin 4096) (l : Fin 128) (h : 4096 * g + i.val < 131072), x (ix2 i l) = A (ix2 (⟨4096 * g + i.val, h⟩ : Fin 131072) l)

theorem blockCount_eq (A : FVec Ideal S131072x128 .f32) (g : ℕ) (hg : g < 32) (x : FVec Ideal S4096x128 .f32) (hx : IsBlock A g x)
    (t : EReal) (q : Fin 8) (l : Fin 128) :
    (∑ s : Fin 8, ∑ p : Fin 64,
      if t < (x (ix2 (⟨512 * s.val + 8 * p.val + q.val, by omega⟩ : Fin 4096) l) : EReal) then 1 else 0) = blockCount A t q.val l g := by
  unfold blockCount
  rw [Finset.sum_range]
  refine Finset.sum_congr rfl fun s _ => ?_
  rw [Finset.sum_range]
  refine Finset.sum_congr rfl fun p _ => ?_
  have h : 4096 * g + (512 * s.val + (8 * p.val + q.val)) < 131072 := by omega
  have e := hx (⟨512 * s.val + 8 * p.val + q.val, by omega⟩ : Fin 4096) l (by show 4096 * g + (512 * s.val + 8 * p.val + q.val) < 131072; omega)
  unfold mark
  rw [dif_pos h, e]
  have e' : (⟨4096 * g + (512 * s.val + 8 * p.val + q.val), by omega⟩ : Fin 131072) = ⟨4096 * g + (512 * s.val + (8 * p.val + q.val)), h⟩ :=
    Fin.ext (by show 4096 * g + (512 * s.val + 8 * p.val + q.val) = 4096 * g + (512 * s.val + (8 * p.val + q.val)); omega)
  rw [e']

/-! ## One grid point -/

variable (arg1 : Memref sig .tc .vmem S4096x128 .f32) (harg1 : arg1.IsWhole) (arg3 : Memref sig .tc .vmem S512x128 .f32)
  (harg3 : arg3.IsWhole)

/-- The stores of a grid point, over the registers `r` and a block. -/
theorem holds_pieces (A : FVec Ideal S131072x128 .f32) (g : ℕ) (hg : g < 32) (x : FVec Ideal S4096x128 .f32) (hx : IsBlock A g x)
    (K : EReal → ℕ → Fin 128 → ℕ) (r : Fin 64 → FVec Ideal S8x128 .f32)
    (hr : ∀ (t : EReal) (q : Fin 8) (l : Fin 128) (p : Fin 64), t < (r p (ix2 q l) : EReal) ↔ p.val < min 64 (K t q.val l))
    {κ : Kind} {sp : Space} (v : View sig κ sp S512x128 .f32) (f : v.ty.Contents (Elt Ideal)) :
    Holds (fun t q l => K t q l + blockCount A t q l g)
      (v.read (Elt Ideal) (v.writes (Elt Ideal) f (pieces (step r (loadX arg1 harg1 x))))) := by
  obtain ⟨g', e, h⟩ := step_registers r (loadX arg1 harg1 x) (fun t q l => min 64 (K t q.val l)) (fun _ _ _ => Nat.min_le_left _ _)
    (fun t q l p => decide_eq_decide.mpr (hr t q l p))
  intro t q l p
  rw [e, read_pieces, h t q l p]
  have hs : (∑ s : Fin 8, ∑ p : Fin 64, if t < (loadX (F := Ideal) arg1 harg1 x s p (ix2 q l) : EReal) then 1 else 0) = blockCount A t q.val l g := by
    rw [← blockCount_eq A g hg x hx t q l]
    exact Finset.sum_congr rfl fun s _ => Finset.sum_congr rfl fun p _ => by rw [loadX_apply]
  rw [hs]
  show p.val < _ ↔ p.val < min 64 (K t q.val l + blockCount A t q.val l g)
  omega

theorem bot_word : (FloatOps.ofBits (F := Ideal) .f32 0xFF800000#32 : EReal) = ⊥ := by
  show Ideal.ofBits _ _ = _
  simp [Ideal.ofBits, Ideal.ieee]

/-- The output of the last point, over running rows that hold the counts. -/
theorem lt_sorted_rows (K : EReal → ℕ → Fin 128 → ℕ) (r : FVec Ideal S512x128 .f32) (hr : Holds K r) (t : EReal) (i : Fin 64)
    (l : Fin 128) :
    t < (Final.sortedV r (ix2 i l) : EReal) ↔ i.val < ∑ q ∈ Finset.range 8, K t q l := by
  rw [Final.lt_sortedV_iff, ← Count.lt_sum_min_iff _ 8 i.val i.isLt]
  rw [Count.card_filter_fin 512 _ (fun n => if n / 8 < min 64 (K t (n % 8) l) then 1 else 0) (fun n => by
    have e := hr t (⟨n.val % 8, Nat.mod_lt _ (by decide)⟩ : Fin 8) l (⟨n.val / 8, by omega⟩ : Fin 64)
    have e' : row (⟨n.val / 8, by omega⟩ : Fin 64) (⟨n.val % 8, Nat.mod_lt _ (by decide)⟩ : Fin 8) = n :=
      Fin.ext (by show 8 * (n.val / 8) + n.val % 8 = n.val; omega)
    rw [e'] at e
    exact if_congr e.symm rfl rfl)]
  rw [show (512 : ℕ) = 8 * 64 from rfl, Count.sum_range_mul, Finset.sum_comm]
  have h : ∀ q ∈ Finset.range 8, (∑ p ∈ Finset.range 64, if (8 * p + q) / 8 < min 64 (K t ((8 * p + q) % 8) l) then 1 else 0)
      = min 64 (K t q l) := fun q hq => by
    have hq := Finset.mem_range.mp hq
    have e : ∀ p ∈ Finset.range 64, (if (8 * p + q) / 8 < min 64 (K t ((8 * p + q) % 8) l) then 1 else 0)
        = if p < min 64 (K t q l) then 1 else 0 := fun p _ => by
      rw [show (8 * p + q) / 8 = p by omega, show (8 * p + q) % 8 = q by omega]
    rw [Finset.sum_congr rfl e, Count.sum_lt]
    omega
  rw [Finset.sum_congr rfl h]

/-! ## The grid -/

variable (m : (ℓ : Loc nD τ sig) → Buf (Elt Ideal) ℓ)

/-- The array. -/
abbrev array (c : Dev nD) : FVec Ideal S131072x128 .f32 := m ((c : Thread nD τ).loc main_arg0)

theorem index_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem isBlock (c : Dev nD) (t : Fin cfg0.N) : IsBlock (array m c) t.val (iblk m c 0 t) := by
  intro i l h
  have hi := index_facts t
  unfold iblk
  rw [View.read_apply]
  show V m c main_arg0 _ = m (c.tc.loc main_arg0) _
  unfold V
  congr 1
  funext a
  apply Fin.ext
  match a with
  | ⟨0, _⟩ => show win0_0.index t 0 * 4096 + 1 * i.val = 4096 * t.val + i.val; rw [hi.1]; omega
  | ⟨1, _⟩ => show win0_0.index t 1 * 128 + 1 * l.val = l.val; rw [hi.2]; omega

theorem holds_first (c : Dev nD) (t : Fin cfg0.N) (h0 : t.val % 32 = 0) (ht : t.val < 32) acc (h1 : ¬t.val % 32 = 31) :
    Holds (fun u q l => count (array m c) u q l 1) (Value.stAt0 m c t.val t.isLt acc).2 := by
  rw [Value.stAt0_A m c t acc h0 h1]
  dsimp only
  unfold sout0_A_0
  rw [stores_first, View.writes_append]
  have ht0 : t.val = 0 := by omega
  have h := holds_pieces (ms0_0 t) (hs0_0 t) (array m c) t.val ht (iblk m c 0 t) (isBlock m c t) (fun _ _ _ => 0) (loadI scM0_0)
    (fun u q l p => by
      rw [loadI_apply, bot_word]
      simp) VS0_0 (VS0_0.writes (Elt Ideal) VS0_0.junk [initial])
  intro u q l p
  rw [h u q l p]
  unfold count
  rw [ht0]
  simp

theorem holds_next (c : Dev nD) (t : Fin cfg0.N) (h0 : ¬t.val % 32 = 0) (h1 : ¬t.val % 32 = 31) (ht : t.val < 32)
    (acc : Vec Ideal S64x128 .f32 × Vec Ideal S512x128 .f32) (n : ℕ) (hn : t.val = n)
    (hacc : Holds (fun u q l => count (array m c) u q l n) acc.2) :
    Holds (fun u q l => count (array m c) u q l (n + 1)) (Value.stAt0 m c t.val t.isLt acc).2 := by
  subst hn
  rw [Value.stAt0_B m c t acc h0 h1]
  dsimp only
  unfold sout0_B_0
  rw [stores_middle]
  have h := holds_pieces (ms0_0 t) (hs0_0 t) (array m c) t.val ht (iblk m c 0 t) (isBlock m c t)
    (fun u q l => count (array m c) u q l t.val) (loadR scM0_0 (Memref.isWhole_whole _) acc.2)
    (fun u q l p => by
      rw [loadR_apply]
      exact hacc u q l p) VS0_0 VS0_0.junk
  intro u q l p
  rw [h u q l p]
  unfold count
  dsimp only
  rw [Finset.sum_range_succ]

theorem lt_last (c : Dev nD) (t : Fin cfg0.N) (h0 : ¬t.val % 32 = 0) (h1 : t.val % 32 = 31) (ht : t.val < 32)
    (acc : Vec Ideal S64x128 .f32 × Vec Ideal S512x128 .f32) (n : ℕ) (hn : t.val = n)
    (hacc : Holds (fun u q l => count (array m c) u q l n) acc.2)
    (u : EReal) (i : Fin 64) (l : Fin 128) :
    u < ((Value.stAt0 m c t.val t.isLt acc).1 (ix2 i l) : EReal) ↔ i.val < ∑ q ∈ Finset.range 8, count (array m c) u q l (n + 1) := by
  subst hn
  rw [Value.stAt0_C m c t acc h0 h1]
  dsimp only
  unfold out0_C_1
  rw [stores_output]
  have e : ∀ w : Vec Ideal S64x128 .f32, VO0_1.read (Elt Ideal) (VO0_1.writes (Elt Ideal) VO0_1.junk
      [⟨Rect.unit (s := S64x128) ![0, 0] ![64, 128] inb_S64x128_S64x128_0_0, w⟩]) = w := fun w =>
    View.read_writes_full VO0_1 VO0_1.junk inb_S64x128_S64x128_0_0 w []
  rw [e]
  have h := holds_pieces (ms0_0 t) (hs0_0 t) (array m c) t.val ht (iblk m c 0 t) (isBlock m c t)
    (fun u q l => count (array m c) u q l t.val) (loadR scM0_0 (Memref.isWhole_whole _) acc.2)
    (fun u q l p => by
      rw [loadR_apply]
      exact hacc u q l p) scM0_0.view scM0_0.view.junk
  rw [lt_sorted_rows (fun u q l => count (array m c) u q l t.val + blockCount (array m c) u q l t.val) _ (fun u q l p => by
    rw [read_all]
    exact h u q l p)]
  unfold count
  simp only [Finset.sum_range_succ _ t.val]

/-- The running rows after each point but the last. -/
theorem rows_after (c : Dev nD) : ∀ (j : ℕ) (h : 0 + j < cfg0.N), j < 31 →
    Holds (fun u q l => count (array m c) u q l (j + 1))
      (Pipeline.accAt (fun n h => Value.stAt0 m c n h Value.junk0) (Value.stAt0 m c) 0 j h).2
  | 0, h, _ => holds_first m c ⟨0, h⟩ rfl (by show 0 < 32; decide) _ (by show ¬0 % 32 = 31; decide)
  | j + 1, h, hj => by
    rw [Pipeline.accAt_succ]
    have ih := rows_after c j (Nat.lt_of_succ_lt h) (by omega)
    have e : (⟨0 + (j + 1), h⟩ : Fin cfg0.N).val = j + 1 := Nat.zero_add _
    exact holds_next m c ⟨0 + (j + 1), h⟩ (by rw [e]; omega) (by rw [e]; omega) (by rw [e]; omega) _ (j + 1) e ih

/-- The output after the last point, through a threshold. -/
theorem lt_after (c : Dev nD) (j : ℕ) (h : 0 + (j + 1) < cfg0.N) (hj : j = 30) (u : EReal) (i : Fin 64) (l : Fin 128) :
    u < ((Pipeline.accAt (fun n h => Value.stAt0 m c n h Value.junk0) (Value.stAt0 m c) 0 (j + 1) h).1 (ix2 i l) : EReal)
      ↔ i.val < ∑ q ∈ Finset.range 8, count (array m c) u q l (j + 1 + 1) := by
  rw [Pipeline.accAt_succ]
  have ih := rows_after m c j (Nat.lt_of_succ_lt h) (by omega)
  have e : (⟨0 + (j + 1), h⟩ : Fin cfg0.N).val = j + 1 := Nat.zero_add _
  exact lt_last m c ⟨0 + (j + 1), h⟩ (by rw [e]; omega) (by rw [e]; omega) (by rw [e]; omega) _ (j + 1) e ih u i l

/-- The result of the kernel, through a threshold. -/
theorem lt_output_iff (c : Dev nD) (u : EReal) (i : Fin 64) (l : Fin 128) :
    u < ((Value.G1 m c : Vec Ideal S64x128 .f32) (ix2 i l) : EReal) ↔ i.val < ∑ n ∈ Finset.range 131072, mark (array m c) u l n := by
  rw [← sum_count, Value.G1_last]
  exact lt_after m c 30 (lt_of_lt_of_eq (by decide) N_0.symm) rfl u i l

end Cert.Rows
-- ==== Proof.Reference.lean ====
/-
  The reference over the extended reals: the sorted columns' entries are the columns' entries, greatest first, so row `i` of the
  result is above a threshold exactly if more than `i` rows of the array are (`lt_reference_iff`).
-/
module

public import proofs.«01_k».proof.Proof.Count
public import Idealize.ShloMosaic.Lib.SortFacts
public import Idealize.ShloMosaic.Lib.IdealHost
public import Idealize.ShloMosaic.Lib.Pipeline.Value
public import Idealize.ShloMosaic.Lib.Pointwise

@[expose] public section

noncomputable section

namespace Cert.Reference

open Idealize.ShloMosaic

/-- Rows and columns of the array and of its result, and of both transposed. -/
abbrev SA : Shape := ⟨2, ![131072, 128]⟩
abbrev ST : Shape := ⟨2, ![128, 131072]⟩
abbrev SV : Shape := ⟨2, ![128, 64]⟩
abbrev SO : Shape := ⟨2, ![64, 128]⟩

/-- Position `k` of the sort by "greater than", greatest first: the sorted entries fall, and are the entries rearranged. -/
theorem lt_sortedFrom_iff {n : ℕ} (f : Fin n → EReal) (t : EReal) (k : Fin n) :
    t < f (sortedFrom (fun a b => Ideal.cmpTotal .gt (f a) (f b) == 1#1) k) ↔ k.val < (Finset.univ.filter fun j => t < f j).card := by
  have hc : ∀ a b, (Ideal.cmpTotal .gt (f a) (f b) == 1#1) = decide (f b < f a) := fun a b => by
    show (BitVec.ofBool (decide (f b < f a)) == 1#1) = _
    cases decide (f b < f a) <;> rfl
  have hs : (fun a b => Ideal.cmpTotal .gt (f a) (f b) == 1#1) = fun a b => decide (f b < f a) := funext fun a => funext fun b => hc a b
  rw [hs]
  have hb := Finite.injective_iff_bijective.mp (sortedFrom_injective fun a b : Fin n => decide (f b < f a))
  refine Count.lt_sorted_iff f (fun k => f (sortedFrom (fun a b => decide (f b < f a)) k)) (Equiv.ofBijective _ hb) rfl ?_ t k
  intro i j hij
  rcases hij.lt_or_eq with h | h
  · have := sortedFrom_noInversion (fun a b : Fin n => decide (f b < f a)) (fun a b => decide (f b < f a))
      (fun a b h => decide_eq_false (not_lt.mpr (le_of_lt (of_decide_eq_true h)))) (fun _ _ h => h)
      (fun a b c h h' => decide_eq_false (not_lt.mpr (le_trans (not_lt.mp (of_decide_eq_false h)) (not_lt.mp (of_decide_eq_false h')))))
      i j h
    exact not_lt.mp (of_decide_eq_false this)
  · rw [h]

/-- The sort of the rows of an array by "greater than", at a place. -/
theorem sort2_apply {n : ℕ} (x : FVec Ideal ⟨2, ![128, n]⟩ .f32) (y : IVec ⟨2, ![128, n]⟩ 32) (l : Fin 128) (i : Fin n) :
    (Host.sort2 ⟨2, ![128, n]⟩ 1 (fun a b => FloatOps.cmpfTotal (F := Ideal) (φ := .f32) .gt a.1 b.1) x y).1 (ix2 l i)
      = x (ix2 l (sortedFrom (fun a b : Fin n => Ideal.cmpTotal .gt (x (ix2 l a)) (x (ix2 l b)) == 1#1) i)) := by
  have hd : 1 < (⟨2, ![128, n]⟩ : Shape).rank := Nat.lt_succ_self 1
  have ha : ∀ k : Fin n, (ix2 l i).along (⟨1, hd⟩ : Fin (⟨2, ![128, n]⟩ : Shape).rank) k = ix2 l k := fun k => by
    funext a
    match a with
    | ⟨0, _⟩ => rfl
    | ⟨1, _⟩ => rfl
  unfold Host.sort2
  rw [dif_pos hd]
  refine (congrArg x (ha _)).trans ?_
  refine congrArg (fun f : Fin n → Fin n → Bool => x (ix2 l (sortedFrom f i))) (funext fun a => funext fun b => ?_)
  exact congrArg₂ (fun u v => Ideal.cmpTotal .gt (x u) (x v) == 1#1) (ha a) (ha b)

/-- The greatest entries of a row, at a place: the entry that the sort puts there. -/
theorem topK_apply {n : ℕ} (hn : 64 ≤ n) (x : FVec Ideal ⟨2, ![128, n]⟩ .f32) (h) (l : Fin 128) (i : Fin 64) :
    (Host.topK (s := ⟨2, ![128, n]⟩) SV 1 (FloatOps.cmpfTotal (F := Ideal) (φ := .f32) .gt) x h).1 (ix2 l i)
      = x (ix2 l (sortedFrom (fun a b : Fin n => Ideal.cmpTotal .gt (x (ix2 l a)) (x (ix2 l b)) == 1#1) (⟨i.val, by omega⟩ : Fin n))) := by
  unfold Host.topK
  dsimp only
  rw [extractStridedSlice_apply _ _ h (ix2 l i) (ix2 l (⟨i.val, by omega⟩ : Fin n)) (fun a => by
    match a with
    | ⟨0, _⟩ => exact (Nat.zero_add _).symm
    | ⟨1, _⟩ => exact (Nat.zero_add _).symm), sort2_apply]

/-- The reference's result, through a threshold. -/
theorem lt_reference_iff (A : FVec Ideal SA .f32) (h1 h2 h3) (t : EReal) (i : Fin 64) (l : Fin 128) :
    t < ((transpose SO [1, 0] (Host.topK (s := ST) SV 1 (FloatOps.cmpfTotal (F := Ideal) (φ := .f32) .gt)
        (transpose ST [1, 0] A h1) h2).1 h3 : FVec Ideal SO .f32) (ix2 i l) : EReal)
      ↔ i.val < (Finset.univ.filter fun j : Fin 131072 => t < (A (ix2 j l) : EReal)).card := by
  have e : (transpose SO [1, 0] (Host.topK (s := ST) SV 1 (FloatOps.cmpfTotal (F := Ideal) (φ := .f32) .gt)
        (transpose ST [1, 0] A h1) h2).1 h3 : FVec Ideal SO .f32) (ix2 i l)
      = A (ix2 (sortedFrom (fun a b : Fin 131072 => Ideal.cmpTotal .gt (A (ix2 a l)) (A (ix2 b l)) == 1#1) (⟨i.val, by omega⟩ : Fin 131072)) l) := by
    have ht : ∀ (a : Fin 128) (b : Fin 131072), transpose ST [1, 0] A h1 (ix2 a b) = A (ix2 b a) := fun a b =>
      transpose_apply _ A h1 (ix2 a b) (ix2 b a) fun k => by
        match k with
        | ⟨0, _⟩ => rfl
        | ⟨1, _⟩ => rfl
    rw [transpose_apply _ _ h3 (ix2 i l) (ix2 l i) (fun k => by
      match k with
      | ⟨0, _⟩ => rfl
      | ⟨1, _⟩ => rfl), topK_apply (by decide), ht]
    simp only [ht]
  rw [e]
  exact lt_sortedFrom_iff (fun a => (A (ix2 a l) : EReal)) t ⟨i.val, by omega⟩

end Cert.Reference
-- ==== Proof.Algebraic.lean ====
/-
  Kernel and reference compute the same function over the extended reals: their results are above the same thresholds at every
  index (`result_eq`), so the two runs end with equal arrays (`algebraic`). And the reference's frame (`reference_frame`).
-/
module

public import proofs.«01_k».proof.Defs
public import proofs.«01_k».proof.Proof.Rows
public import proofs.«01_k».proof.Proof.Reference
public import proofs.«01_k».proof.Proof.Gen.ReferenceIdeal.Run
public import Idealize.ShloMosaic.Lib.Quiescent

@[expose] public section

noncomputable section

namespace Cert.Algebraic

open Idealize.ShloMosaic Idealize.ShloMosaic.TcCoe Idealize.SL.Sem

/-- The reference's function of the array. -/
abbrev reference (A : FVec Ideal Cert.ReferenceIdeal.S131072x128 .f32) : FVec Ideal Cert.ReferenceIdeal.S64x128 .f32 :=
  transpose Cert.ReferenceIdeal.S64x128 [1, 0]
    ((Host.topK Cert.ReferenceIdeal.S128x64 1 (FloatOps.cmpfTotal (F := Ideal) (φ := .f32) .gt)
      (transpose Cert.ReferenceIdeal.S128x131072 [1, 0] A Cert.ReferenceIdeal.Gen.transposes_S131072x128_S128x131072_1_0)
      Cert.ReferenceIdeal.Gen.sliceFits_S128x131072_S128x64).1) Cert.ReferenceIdeal.Gen.transposes_S128x64_S64x128_1_0

/-- The kernel's result is the reference's. -/
theorem result_eq (m : (ℓ : Loc Cert.KernelIdeal.nD Cert.KernelIdeal.τ Cert.KernelIdeal.sig) → Buf (Elt Ideal) ℓ)
    (c : Dev Cert.KernelIdeal.nD) : reference (Cert.Rows.array m c) = Cert.KernelIdeal.Value.G1 m c := by
  funext y
  have hy : y = ix2 (y 0) (y 1) := by
    funext a
    match a with
    | ⟨0, _⟩ => rfl
    | ⟨1, _⟩ => rfl
  rw [hy]
  refine eq_of_forall_lt_iff (α := EReal) fun t => ?_
  refine (Cert.Reference.lt_reference_iff (Cert.Rows.array m c) _ _ _ t (y 0) (y 1)).trans ?_
  refine Iff.trans ?_ (Cert.Rows.lt_output_iff m c t (y 0) (y 1)).symm
  rw [Cert.Count.card_filter_fin 131072 _ (Cert.Rows.mark (Cert.Rows.array m c) t (y 1)) fun i => by
    unfold Cert.Rows.mark
    rw [dif_pos i.isLt]]

/-- The two programs' runs end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.KernelIdeal.Value.G1 m c, Cert.KernelIdeal.Value.run m ρ, ?_⟩
  refine (θ_run _ _ _).mono (fun r h c => ⟨?_, (h c).2⟩) (Cert.ReferenceIdeal.Value.run m' ρ')
  refine (h c).1.trans ?_
  rw [hm c]
  exact result_eq m c

/-- The reference runs, leaves its argument unchanged, and has no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

end Cert.Algebraic
-- ==== Proof.lean ====
/-
  The certificate: the two kernels' frames are generated, the reference's frame and the algebraic claim are `Cert.Algebraic`'s, and
  the idealization rewrote nothing.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Algebraic

@[expose] public section

noncomputable section

namespace Cert.Proof

open Idealize.ShloMosaic Idealize.SL.Sem

/-- Everything that the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Algebraic.reference_frame, trivial,
  Cert.Algebraic.algebraic⟩

end Cert.Proof

end
